-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v10)) (v2 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_v12) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v41) = v1 c
          ∧ r.2.mem ((c.tc : Thread Cert.ReferenceIdeal.nD Cert.ReferenceIdeal.τ).loc Cert.ReferenceIdeal.main_v43) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S50000x256 : Shape := ⟨2, ![50000, 256]⟩
abbrev S50000 : Shape := ⟨1, ![50000]⟩
abbrev S512x3x3 : Shape := ⟨3, ![512, 3, 3]⟩
abbrev S256x256 : Shape := ⟨2, ![256, 256]⟩
abbrev S256 : Shape := ⟨1, ![256]⟩
abbrev S256x1 : Shape := ⟨2, ![256, 1]⟩
abbrev S1 : Shape := ⟨1, ![1]⟩
abbrev S_ : Shape := ⟨0, ![]⟩

class Facts : Prop where
  bcast_S_S50000x256 : S_.BroadcastsInDim S50000x256 (![] : Fin 0 → Fin S50000x256.rank)
  bcast_S_S256x256 : S_.BroadcastsInDim S256x256 (![] : Fin 0 → Fin S256x256.rank)
  bcast_S_S256 : S_.BroadcastsInDim S256 (![] : Fin 0 → Fin S256.rank)

variable [Facts]

def fn_part1 {F : FTy → Type} [FloatOps F] (main_arg9 : FVec F S256 .f32) (main_arg10 : FVec F S256x256 .f32) (main_arg11 : FVec F S256 .f32) (main_v2 : IVec S50000x256 1) (main_v5 : IVec S256x256 1) (main_v8 : IVec S256 1) (main_v11 : IVec S256x256 1) (main_v14 : IVec S256 1) (main_v17 : IVec S256x256 1) : IVec S50000x256 1 × IVec S256x256 1 × IVec S256 1 × IVec S256x256 1 × IVec S256 1 × IVec S256x256 1 × IVec S256 1 × IVec S256x256 1 × IVec S256 1 :=
  let main_v18 : FVec F S256 .f32 := Host.absf main_arg9
  let main_cst_5 : FVec F S_ .f32 := constant S_ .f32 0x7F800000#32
  let main_v19 : FVec F S256 .f32 := broadcastInDim S256 ![] bcast_S_S256 main_cst_5
  let main_v20 : IVec S256 1 := cmpf .olt main_v18 main_v19
  let main_v21 : FVec F S256x256 .f32 := Host.absf main_arg10
  let main_cst_6 : FVec F S_ .f32 := constant S_ .f32 0x7F800000#32
  let main_v22 : FVec F S256x256 .f32 := broadcastInDim S256x256 ![] bcast_S_S256x256 main_cst_6
  let main_v23 : IVec S256x256 1 := cmpf .olt main_v21 main_v22
  let main_v24 : FVec F S256 .f32 := Host.absf main_arg11
  let main_cst_7 : FVec F S_ .f32 := constant S_ .f32 0x7F800000#32
  let main_v25 : FVec F S256 .f32 := broadcastInDim S256 ![] bcast_S_S256 main_cst_7
  let main_v26 : IVec S256 1 := cmpf .olt main_v24 main_v25
  (main_v2, main_v5, main_v8, main_v11, main_v14, main_v17, main_v20, main_v23, main_v26)

def fn {F : FTy → Type} [FloatOps F] (main_arg0 : FVec F S50000x256 .f32) (main_arg1 : FVec F S50000 .f32) (main_arg2 : IVec S50000 32) (main_arg3 : FVec F S512x3x3 .f32) (main_arg4 : FVec F S256x256 .f32) (main_arg5 : FVec F S256 .f32) (main_arg6 : FVec F S256x256 .f32) (main_arg7 : FVec F S256 .f32) (main_arg8 : FVec F S256x256 .f32) (main_arg9 : FVec F S256 .f32) (main_arg10 : FVec F S256x256 .f32) (main_arg11 : FVec F S256 .f32) (main_arg12 : FVec F S256x1 .f32) (main_arg13 : FVec F S1 .f32) (main_arg14 : FVec F S256x1 .f32) (main_arg15 : FVec F S1 .f32) : IVec S50000x256 1 × IVec S256x256 1 × IVec S256 1 × IVec S256x256 1 × IVec S256 1 × IVec S256x256 1 × IVec S256 1 × IVec S256x256 1 × IVec S256 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_v3 : FVec F S256x256 .f32 := Host.absf main_arg4
  let main_cst_0 : FVec F S_ .f32 := constant S_ .f32 0x7F800000#32
  let main_v4 : FVec F S256x256 .f32 := broadcastInDim S256x256 ![] bcast_S_S256x256 main_cst_0
  let main_v5 : IVec S256x256 1 := cmpf .olt main_v3 main_v4
  let main_v6 : FVec F S256 .f32 := Host.absf main_arg5
  let main_cst_1 : FVec F S_ .f32 := constant S_ .f32 0x7F800000#32
  let main_v7 : FVec F S256 .f32 := broadcastInDim S256 ![] bcast_S_S256 main_cst_1
  let main_v8 : IVec S256 1 := cmpf .olt main_v6 main_v7
  let main_v9 : FVec F S256x256 .f32 := Host.absf main_arg6
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_v12 : FVec F S256 .f32 := Host.absf main_arg7
  let main_cst_3 : FVec F S_ .f32 := constant S_ .f32 0x7F800000#32
  let main_v13 : FVec F S256 .f32 := broadcastInDim S256 ![] bcast_S_S256 main_cst_3
  let main_v14 : IVec S256 1 := cmpf .olt main_v12 main_v13
  let main_v15 : FVec F S256x256 .f32 := Host.absf main_arg8
  let main_cst_4 : FVec F S_ .f32 := constant S_ .f32 0x7F800000#32
  let main_v16 : FVec F S256x256 .f32 := broadcastInDim S256x256 ![] bcast_S_S256x256 main_cst_4
  let main_v17 : IVec S256x256 1 := cmpf .olt main_v15 main_v16
  fn_part1 (F := F) main_arg9 main_arg10 main_arg11 main_v2 main_v5 main_v8 main_v11 main_v14 main_v17
-- ==== Kernel.lean ====
abbrev S50000x256 : Shape := ⟨2, ![50000, 256]⟩
abbrev S50000 : Shape := ⟨1, ![50000]⟩
abbrev S512x3x3 : Shape := ⟨3, ![512, 3, 3]⟩
abbrev S256x256 : Shape := ⟨2, ![256, 256]⟩
abbrev S256 : Shape := ⟨1, ![256]⟩
abbrev S256x1 : Shape := ⟨2, ![256, 1]⟩
abbrev S1 : Shape := ⟨1, ![1]⟩
abbrev S50000x1 : Shape := ⟨2, ![50000, 1]⟩
abbrev S1x256 : Shape := ⟨2, ![1, 256]⟩
abbrev S1x1 : Shape := ⟨2, ![1, 1]⟩
abbrev S1x512 : Shape := ⟨2, ![1, 512]⟩
abbrev S2000x256 : Shape := ⟨2, ![2000, 256]⟩
abbrev S2000x1 : Shape := ⟨2, ![2000, 1]⟩
abbrev S2000x512 : Shape := ⟨2, ![2000, 512]⟩
abbrev S512 : Shape := ⟨1, ![512]⟩
abbrev S_ : Shape := ⟨0, ![]⟩

abbrev nBuf : Space → Nat
  | .hbm => 31
  | .vmem => 21
  | .smem => 0
  | _ => 0

abbrev bufTy : (tb : Table) → Fin (tcTables nBuf tb) → BufTy
  | .hbm, ⟨0, _⟩ => ⟨S50000x256, .f32⟩
  | .hbm, ⟨1, _⟩ => ⟨S50000, .f32⟩
  | .hbm, ⟨2, _⟩ => ⟨S50000, .i32⟩
  | .hbm, ⟨3, _⟩ => ⟨S512x3x3, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256x256, .f32⟩
  | .hbm, ⟨11, _⟩ => ⟨S256, .f32⟩
  | .hbm, ⟨12, _⟩ => ⟨S256x1, .f32⟩
  | .hbm, ⟨13, _⟩ => ⟨S1, .f32⟩
  | .hbm, ⟨14, _⟩ => ⟨S256x1, .f32⟩
  | .hbm, ⟨15, _⟩ => ⟨S1, .f32⟩
  | .hbm, ⟨16, _⟩ => ⟨S50000x1, .f32⟩
  | .hbm, ⟨17, _⟩ => ⟨S50000x1, .i32⟩
  | .hbm, ⟨18, _⟩ => ⟨S1x256, .f32⟩
  | .hbm, ⟨19, _⟩ => ⟨S1x256, .f32⟩
  | .hbm, ⟨20, _⟩ => ⟨S1x256, .f32⟩
  | .hbm, ⟨21, _⟩ => ⟨S1x256, .f32⟩
  | .hbm, ⟨22, _⟩ => ⟨S1x1, .f32⟩
  | .hbm, ⟨23, _⟩ => ⟨S1x1, .f32⟩
  | .hbm, ⟨24, _⟩ => ⟨S50000x1, .f32⟩
  | .hbm, ⟨25, _⟩ => ⟨S1x512, .f32⟩
  | .hbm, ⟨26, _⟩ => ⟨S50000, .f32⟩
  | .hbm, ⟨27, _⟩ => ⟨S512, .f32⟩
  | .hbm, ⟨28, _⟩ => ⟨S_, .f32⟩
  | .hbm, ⟨29, _⟩ => ⟨S512, .f32⟩
  | .hbm, ⟨30, _⟩ => ⟨S512, .f32⟩
  | .local _ .vmem, ⟨0, _⟩ => ⟨S2000x256, .f32⟩
  | .local _ .vmem, ⟨1, _⟩ => ⟨S2000x256, .f32⟩
  | .local _ .vmem, ⟨2, _⟩ => ⟨S2000x1, .f32⟩
  | .local _ .vmem, ⟨3, _⟩ => ⟨S2000x1, .f32⟩
  | .local _ .vmem, ⟨4, _⟩ => ⟨S2000x1, .i32⟩
  | .local _ .vmem, ⟨5, _⟩ => ⟨S2000x1, .i32⟩
  | .local _ .vmem, ⟨6, _⟩ => ⟨S256x256, .f32⟩
  | .local _ .vmem, ⟨7, _⟩ => ⟨S1x256, .f32⟩
  | .local _ .vmem, ⟨8, _⟩ => ⟨S256x256, .f32⟩
  | .local _ .vmem, ⟨9, _⟩ => ⟨S1x256, .f32⟩
  | .local _ .vmem, ⟨10, _⟩ => ⟨S256x256, .f32⟩
  | .local _ .vmem, ⟨11, _⟩ => ⟨S1x256, .f32⟩
  | .local _ .vmem, ⟨12, _⟩ => ⟨S256x256, .f32⟩
  | .local _ .vmem, ⟨13, _⟩ => ⟨S1x256, .f32⟩
  | .local _ .vmem, ⟨14, _⟩ => ⟨S256x1, .f32⟩
  | .local _ .vmem, ⟨15, _⟩ => ⟨S1x1, .f32⟩
  | .local _ .vmem, ⟨16, _⟩ => ⟨S256x1, .f32⟩
  | .local _ .vmem, ⟨17, _⟩ => ⟨S1x1, .f32⟩
  | .local _ .vmem, ⟨18, _⟩ => ⟨S2000x1, .f32⟩
  | .local _ .vmem, ⟨19, _⟩ => ⟨S2000x1, .f32⟩
  | .local _ .vmem, ⟨20, _⟩ => ⟨S1x512, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8_0 : Ref sig .tc := ⟨.hbm, 24, rfl⟩
abbrev main_v8_1 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_v12 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem15_1 : DmaSem sig := 19
abbrev cc0_sem16_0 : DmaSem sig := 20

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S2000x1 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S1x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== ReferenceIdeal.lean ====
abbrev S50000x256 : Shape := ⟨2, ![50000, 256]⟩
abbrev S50000 : Shape := ⟨1, ![50000]⟩
abbrev S512x3x3 : Shape := ⟨3, ![512, 3, 3]⟩
abbrev S256x256 : Shape := ⟨2, ![256, 256]⟩
abbrev S256 : Shape := ⟨1, ![256]⟩
abbrev S256x1 : Shape := ⟨2, ![256, 1]⟩
abbrev S1 : Shape := ⟨1, ![1]⟩
abbrev S1x256 : Shape := ⟨2, ![1, 256]⟩
abbrev S_ : Shape := ⟨0, ![]⟩
abbrev S50000x1 : Shape := ⟨2, ![50000, 1]⟩
abbrev S1x1 : Shape := ⟨2, ![1, 1]⟩
abbrev S512 : Shape := ⟨1, ![512]⟩

abbrev nBuf : Space → Nat
  | .hbm => 97
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S50000, .f32⟩
  | .hbm, ⟨2, _⟩ => ⟨S50000, .i32⟩
  | .hbm, ⟨3, _⟩ => ⟨S512x3x3, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256x256, .f32⟩
  | .hbm, ⟨11, _⟩ => ⟨S256, .f32⟩
  | .hbm, ⟨12, _⟩ => ⟨S256x1, .f32⟩
  | .hbm, ⟨13, _⟩ => ⟨S1, .f32⟩
  | .hbm, ⟨14, _⟩ => ⟨S256x1, .f32⟩
  | .hbm, ⟨15, _⟩ => ⟨S1, .f32⟩
  | .hbm, ⟨16, _⟩ => ⟨S50000x256, .f32⟩
  | .hbm, ⟨17, _⟩ => ⟨S1x256, .f32⟩
  | .hbm, ⟨18, _⟩ => ⟨S50000x256, .f32⟩
  | .hbm, ⟨19, _⟩ => ⟨S50000x256, .f32⟩
  | .hbm, ⟨20, _⟩ => ⟨S50000x256, .f32⟩
  | .hbm, ⟨21, _⟩ => ⟨S1x256, .f32⟩
  | .hbm, ⟨22, _⟩ => ⟨S50000x256, .f32⟩
  | .hbm, ⟨23, _⟩ => ⟨S50000x256, .f32⟩
  | .hbm, ⟨24, _⟩ => ⟨S50000x256, .f32⟩
  | .hbm, ⟨25, _⟩ => ⟨S50000x256, .f32⟩
  | .hbm, ⟨26, _⟩ => ⟨S_, .f32⟩
  | .hbm, ⟨27, _⟩ => ⟨S50000x256, .f32⟩
  | .hbm, ⟨28, _⟩ => ⟨S50000x256, .f32⟩
  | .hbm, ⟨29, _⟩ => ⟨S_, .f32⟩
  | .hbm, ⟨30, _⟩ => ⟨S50000x256, .f32⟩
  | .hbm, ⟨31, _⟩ => ⟨S50000x256, .f32⟩
  | .hbm, ⟨32, _⟩ => ⟨S50000x256, .f32⟩
  | .hbm, ⟨33, _⟩ => ⟨S50000x256, .f32⟩
  | .hbm, ⟨34, _⟩ => ⟨S50000x256, .f32⟩
  | .hbm, ⟨35, _⟩ => ⟨S_, .f32⟩
  | .hbm, ⟨36, _⟩ => ⟨S50000x256, .f32⟩
  | .hbm, ⟨37, _⟩ => ⟨S50000x256, .f32⟩
  | .hbm, ⟨38, _⟩ => ⟨S_, .f32⟩
  | .hbm, ⟨39, _⟩ => ⟨S50000x256, .f32⟩
  | .hbm, ⟨40, _⟩ => ⟨S50000x256, .f32⟩
  | .hbm, ⟨41, _⟩ => ⟨S50000x256, .f32⟩
  | .hbm, ⟨42, _⟩ => ⟨S50000x256, .f32⟩
  | .hbm, ⟨43, _⟩ => ⟨S1x256, .f32⟩
  | .hbm, ⟨44, _⟩ => ⟨S50000x256, .f32⟩
  | .hbm, ⟨45, _⟩ => ⟨S50000x256, .f32⟩
  | .hbm, ⟨46, _⟩ => ⟨S50000x256, .f32⟩
  | .hbm, ⟨47, _⟩ => ⟨S1x256, .f32⟩
  | .hbm, ⟨48, _⟩ => ⟨S50000x256, .f32⟩
  | .hbm, ⟨49, _⟩ => ⟨S50000x256, .f32⟩
  | .hbm, ⟨50, _⟩ => ⟨S50000x256, .f32⟩
  | .hbm, ⟨51, _⟩ => ⟨S50000x256, .f32⟩
  | .hbm, ⟨52, _⟩ => ⟨S_, .f32⟩
  | .hbm, ⟨53, _⟩ => ⟨S50000x256, .f32⟩
  | .hbm, ⟨54, _⟩ => ⟨S50000x256, .f32⟩
  | .hbm, ⟨55, _⟩ => ⟨S_, .f32⟩
  | .hbm, ⟨56, _⟩ => ⟨S50000x256, .f32⟩
  | .hbm, ⟨57, _⟩ => ⟨S50000x256, .f32⟩
  | .hbm, ⟨58, _⟩ => ⟨S50000x256, .f32⟩
  | .hbm, ⟨59, _⟩ => ⟨S50000x256, .f32⟩
  | .hbm, ⟨60, _⟩ => ⟨S50000x256, .f32⟩
  | .hbm, ⟨61, _⟩ => ⟨S_, .f32⟩
  | .hbm, ⟨62, _⟩ => ⟨S50000x256, .f32⟩
  | .hbm, ⟨63, _⟩ => ⟨S50000x256, .f32⟩
  | .hbm, ⟨64, _⟩ => ⟨S_, .f32⟩
  | .hbm, ⟨65, _⟩ => ⟨S50000x256, .f32⟩
  | .hbm, ⟨66, _⟩ => ⟨S50000x256, .f32⟩
  | .hbm, ⟨67, _⟩ => ⟨S50000x256, .f32⟩
  | .hbm, ⟨68, _⟩ => ⟨S50000x1, .f32⟩
  | .hbm, ⟨69, _⟩ => ⟨S1x1, .f32⟩
  | .hbm, ⟨70, _⟩ => ⟨S50000x1, .f32⟩
  | .hbm, ⟨71, _⟩ => ⟨S50000x1, .f32⟩
  | .hbm, ⟨72, _⟩ => ⟨S50000x1, .f32⟩
  | .hbm, ⟨73, _⟩ => ⟨S1x1, .f32⟩
  | .hbm, ⟨74, _⟩ => ⟨S50000x1, .f32⟩
  | .hbm, ⟨75, _⟩ => ⟨S50000x1, .f32⟩
  | .hbm, ⟨76, _⟩ => ⟨S50000x1, .f32⟩
  | .hbm, ⟨77, _⟩ => ⟨S50000x1, .f32⟩
  | .hbm, ⟨78, _⟩ => ⟨S_, .f32⟩
  | .hbm, ⟨79, _⟩ => ⟨S50000x1, .f32⟩
  | .hbm, ⟨80, _⟩ => ⟨S50000x1, .f32⟩
  | .hbm, ⟨81, _⟩ => ⟨S_, .f32⟩
  | .hbm, ⟨82, _⟩ => ⟨S50000x1, .f32⟩
  | .hbm, ⟨83, _⟩ => ⟨S50000x1, .f32⟩
  | .hbm, ⟨84, _⟩ => ⟨S50000x1, .f32⟩
  | .hbm, ⟨85, _⟩ => ⟨S50000, .f32⟩
  | .hbm, ⟨86, _⟩ => ⟨S_, .f32⟩
  | .hbm, ⟨87, _⟩ => ⟨S50000, .f32⟩
  | .hbm, ⟨88, _⟩ => ⟨S50000, .f32⟩
  | .hbm, ⟨89, _⟩ => ⟨S50000, .f32⟩
  | .hbm, ⟨90, _⟩ => ⟨S_, .f32⟩
  | .hbm, ⟨91, _⟩ => ⟨S512, .f32⟩
  | .hbm, ⟨92, _⟩ => ⟨S50000x1, .i32⟩
  | .hbm, ⟨93, _⟩ => ⟨S512, .f32⟩
  | .hbm, ⟨94, _⟩ => ⟨S_, .f32⟩
  | .hbm, ⟨95, _⟩ => ⟨S512, .f32⟩
  | .hbm, ⟨96, _⟩ => ⟨S512, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v8 : Ref sig .tc := ⟨.hbm, 32, rfl⟩
abbrev main_call1_v0 : Ref sig .tc := ⟨.hbm, 33, rfl⟩
abbrev main_call1_v1 : Ref sig .tc := ⟨.hbm, 34, rfl⟩
abbrev main_call1_cst : Ref sig .tc := ⟨.hbm, 35, rfl⟩
abbrev main_call1_v2 : Ref sig .tc := ⟨.hbm, 36, rfl⟩
abbrev main_call1_v3 : Ref sig .tc := ⟨.hbm, 37, rfl⟩
abbrev main_call1_cst_0 : Ref sig .tc := ⟨.hbm, 38, rfl⟩
abbrev main_call1_v4 : Ref sig .tc := ⟨.hbm, 39, rfl⟩
abbrev main_call1_v5 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_call2_v0 : Ref sig .tc := ⟨.hbm, 50, rfl⟩
abbrev main_call2_v1 : Ref sig .tc := ⟨.hbm, 51, rfl⟩
abbrev main_call2_cst : Ref sig .tc := ⟨.hbm, 52, rfl⟩
abbrev main_call2_v2 : Ref sig .tc := ⟨.hbm, 53, rfl⟩
abbrev main_call2_v3 : Ref sig .tc := ⟨.hbm, 54, rfl⟩
abbrev main_call2_cst_0 : Ref sig .tc := ⟨.hbm, 55, rfl⟩
abbrev main_call2_v4 : Ref sig .tc := ⟨.hbm, 56, rfl⟩
abbrev main_call2_v5 : Ref sig .tc := ⟨.hbm, 57, rfl⟩
abbrev main_v18 : Ref sig .tc := ⟨.hbm, 58, rfl⟩
abbrev main_call3_v0 : Ref sig .tc := ⟨.hbm, 59, rfl⟩
abbrev main_call3_v1 : Ref sig .tc := ⟨.hbm, 60, rfl⟩
abbrev main_call3_cst : Ref sig .tc := ⟨.hbm, 61, rfl⟩
abbrev main_call3_v2 : Ref sig .tc := ⟨.hbm, 62, rfl⟩
abbrev main_call3_v3 : Ref sig .tc := ⟨.hbm, 63, rfl⟩
abbrev main_call3_cst_0 : Ref sig .tc := ⟨.hbm, 64, rfl⟩
abbrev main_call3_v4 : Ref sig .tc := ⟨.hbm, 65, rfl⟩
abbrev main_call3_v5 : Ref sig .tc := ⟨.hbm, 66, rfl⟩
abbrev main_v19 : Ref sig .tc := ⟨.hbm, 67, rfl⟩
abbrev main_v20 : Ref sig .tc := ⟨.hbm, 68, rfl⟩
abbrev main_v21 : Ref sig .tc := ⟨.hbm, 69, rfl⟩
abbrev main_v22 : Ref sig .tc := ⟨.hbm, 70, rfl⟩
abbrev main_v23 : Ref sig .tc := ⟨.hbm, 71, rfl⟩
abbrev main_v24 : Ref sig .tc := ⟨.hbm, 72, rfl⟩
abbrev main_v25 : Ref sig .tc := ⟨.hbm, 73, rfl⟩
abbrev main_v26 : Ref sig .tc := ⟨.hbm, 74, rfl⟩
abbrev main_v27 : Ref sig .tc := ⟨.hbm, 75, rfl⟩
abbrev main_v28 : Ref sig .tc := ⟨.hbm, 76, rfl⟩
abbrev main_v29 : Ref sig .tc := ⟨.hbm, 77, rfl⟩
abbrev main_cst : Ref sig .tc := ⟨.hbm, 78, rfl⟩
abbrev main_v30 : Ref sig .tc := ⟨.hbm, 79, rfl⟩
abbrev main_v31 : Ref sig .tc := ⟨.hbm, 80, rfl⟩
abbrev main_cst_0 : Ref sig .tc := ⟨.hbm, 81, rfl⟩
abbrev main_v32 : Ref sig .tc := ⟨.hbm, 82, rfl⟩
abbrev main_v33 : Ref sig .tc := ⟨.hbm, 83, rfl⟩
abbrev main_v34 : Ref sig .tc := ⟨.hbm, 84, rfl⟩
abbrev main_v35 : Ref sig .tc := ⟨.hbm, 85, rfl⟩
abbrev main_cst_1 : Ref sig .tc := ⟨.hbm, 86, rfl⟩
abbrev main_v36 : Ref sig .tc := ⟨.hbm, 87, rfl⟩
abbrev main_v37 : Ref sig .tc := ⟨.hbm, 88, rfl⟩
abbrev main_v38 : Ref sig .tc := ⟨.hbm, 89, rfl⟩
abbrev main_cst_2 : Ref sig .tc := ⟨.hbm, 90, rfl⟩
abbrev main_v39 : Ref sig .tc := ⟨.hbm, 91, rfl⟩
abbrev main_v40 : Ref sig .tc := ⟨.hbm, 92, rfl⟩
abbrev main_v41 : Ref sig .tc := ⟨.hbm, 93, rfl⟩
abbrev main_cst_3 : Ref sig .tc := ⟨.hbm, 94, rfl⟩
abbrev main_v42 : Ref sig .tc := ⟨.hbm, 95, rfl⟩
abbrev main_v43 : Ref sig .tc := ⟨.hbm, 96, rfl⟩

abbrev nD : Nat := 1
abbrev τ : Topo := Topo.v7x

variable {F : FTy → Type} [FloatOps F]
-- ==== Proof.Block.lean ====
/- What one grid point leaves in the two output blocks, as the body's arithmetic over the point's input blocks. -/
module

public import proofs.«01_k».proof.Proof.Gen.KernelIdeal.Frame
public import Idealize.ShloMosaic.Lib.Pipeline.Value
public import Idealize.ShloMosaic.Lib.Tactic

@[expose] public section

set_option maxRecDepth 16384

noncomputable section

namespace Cert.KernelIdeal.Gen

open Idealize.ShloMosaic Idealize.ShloMosaic.TcCoe Idealize.ShloMosaic.Tactic Idealize.SL.Sem

variable {F : FTy → Type} [FloatOps F]
variable (m : (ℓ : Loc nD τ sig) → Buf (Elt F) ℓ)

/-- A rectangle that starts at the origin starts at zero on every axis. -/
theorem origin2 : (![0, 0] : Fin 2 → ℕ) = fun _ => 0 := funext fun a => by fin_cases a <;> rfl

/-- The energies the body computes at point `t`, from the blocks staged there. -/
def atomBlock (c : Dev nD) (t : Fin cfg0.N) : FVec F S2000x1 .f32 :=
  k0_pay5 (k0_pay3 (iblk m c 0 t) (iblk m c 3 t) (iblk m c 4 t) (iblk m c 7 t) (iblk m c 8 t))
    (k0_pay4 (iblk m c 0 t) (iblk m c 5 t) (iblk m c 6 t) (iblk m c 9 t)) (iblk m c 10 t) (iblk m c 11 t) (iblk m c 12 t)
    (iblk m c 13 t) (iblk m c 14 t) (iblk m c 1 t)

/-- The segment block with point `t`'s energies added to what it held, `acc`. -/
def segStep (c : Dev nD) (t : Fin cfg0.N) (acc : FVec F S1x512 .f32) : FVec F S1x512 .f32 :=
  k0_pay2 (atomBlock m c t) (iota .tc S2000x512 32 [1] iota_S2000x512_d1_w32) (k0_pay6 (F := F) (iblk m c 2 t)) acc

/-- The first point's energy block. -/
theorem first_atoms (c : Dev nD) (t : Fin cfg0.N) (h0 : t.val % 25 = 0) :
    (outsAt0 m c t.val t.isLt).1 = atomBlock m c t := by
  rw [outsAt0_A m c t h0]
  dsimp only
  unfold out0_A_15
  rw [View.read_writes_eq_canon _ _ _ (fun y => cover0_A_15 (y := y) ..)]
  unfold kernelRun0_A
  dsimp only
  sl_unfold_words
  rw [View.canon_unit_zero origin2]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread, (hs0_16 t).read_unread,
    View.ld_unit_zero (S := S2000x256) origin2, View.ld_unit_zero (S := S2000x1) origin2, View.ld_unit_zero (S := S256x256) origin2, View.ld_unit_zero (S := S1x256) origin2, View.ld_unit_zero (S := S256x1) origin2, View.ld_unit_zero (S := S1x1) origin2, View.ld_unit_zero (S := S1x512) origin2]
  rfl

/-- The first point's segment block: one step from the block of zeros it stores first. -/
theorem first_segs (c : Dev nD) (t : Fin cfg0.N) (h0 : t.val % 25 = 0) :
    (outsAt0 m c t.val t.isLt).2 = segStep m c t (k0_pay1 (F := F)) := by
  rw [outsAt0_A m c t h0]
  dsimp only
  unfold out0_A_16
  rw [View.read_writes_eq_canon _ _ _ (fun y => cover0_A_16 (y := y) ..)]
  unfold kernelRun0_A
  dsimp only
  sl_unfold_words
  rw [View.canon_cons_unit_zero (S := S1x512) origin2, View.readCov_unit_zero (S := S1x512) _ origin2]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread, (hs0_16 t).read_unread,
    View.ld_unit_zero (S := S2000x256) origin2, View.ld_unit_zero (S := S2000x1) origin2, View.ld_unit_zero (S := S256x256) origin2, View.ld_unit_zero (S := S1x256) origin2, View.ld_unit_zero (S := S256x1) origin2, View.ld_unit_zero (S := S1x1) origin2, View.ld_unit_zero (S := S1x512) origin2]
  rfl

/-- A later point's energy block. -/
theorem later_atoms (c : Dev nD) (t : Fin cfg0.N) (h0 : ¬t.val % 25 = 0) :
    (outsAt0 m c t.val t.isLt).1 = atomBlock m c t := by
  rw [outsAt0_B m c t h0]
  dsimp only
  unfold out0_B_15
  rw [View.read_writes_eq_canon _ _ _ (fun y => cover0_B_15 (y := y) ..)]
  unfold kernelRun0_B
  dsimp only
  sl_unfold_words
  rw [View.canon_unit_zero origin2]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread, (hs0_16 t).read_unread,
    View.ld_unit_zero (S := S2000x256) origin2, View.ld_unit_zero (S := S2000x1) origin2, View.ld_unit_zero (S := S256x256) origin2, View.ld_unit_zero (S := S1x256) origin2, View.ld_unit_zero (S := S256x1) origin2, View.ld_unit_zero (S := S1x1) origin2, View.ld_unit_zero (S := S1x512) origin2]
  rfl

/-- A later point's segment block: one step from what the point before left. -/
theorem later_segs (c : Dev nD) (t : Fin cfg0.N) (h0 : ¬t.val % 25 = 0) :
    (outsAt0 m c t.val t.isLt).2 =
      segStep m c t (outsAt0 m c (t.val - 1) (Nat.lt_of_le_of_lt (Nat.sub_le _ _) t.isLt)).2 := by
  rw [outsAt0_B m c t h0]
  dsimp only
  unfold out0_B_16
  rw [View.read_writes_eq_canon _ _ _ (fun y => cover0_B_16 (y := y) ..)]
  unfold kernelRun0_B
  dsimp only
  sl_unfold_words
  rw [View.canon_unit_zero origin2]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread, (hs0_16 t).read_unread,
    View.ld_unit_zero (S := S2000x256) origin2, View.ld_unit_zero (S := S2000x1) origin2, View.ld_unit_zero (S := S256x256) origin2, View.ld_unit_zero (S := S1x256) origin2, View.ld_unit_zero (S := S256x1) origin2, View.ld_unit_zero (S := S1x1) origin2, View.ld_unit_zero (S := S1x512) origin2]
  rfl

end Cert.KernelIdeal.Gen

end

end
-- ==== Proof.Gated.lean ====
/- The gated perceptron of one row, over the extended reals: the two spellings of its activation (through the
   hyperbolic tangent and through the exponential), and that they give one value on finite rows and weights. -/
module

public import Idealize.ShloMosaic.PureOps.Ideal.Laws
public import Mathlib.Analysis.SpecialFunctions.Trigonometric.DerivHyp

@[expose] public section

noncomputable section

namespace Cert.Gated

open Idealize.ShloMosaic

/-! ## Constants and the two sigmoids -/

/-- The pattern of one half. -/
theorem half_f32 : Ideal.ofBits .f32 0x3F000000#32 = ((1 / 2 : ℝ) : EReal) := by
  simp [Ideal.ofBits, Ideal.ieee]
  rw [← EReal.coe_mul]
  norm_num

/-- The pattern of one. -/
theorem unit_f32 : Ideal.ofBits .f32 0x3F800000#32 = 1 := by
  simp [Ideal.ofBits, Ideal.ieee]
  rw [← EReal.coe_mul]
  norm_num

/-- The pattern of plus infinity. -/
theorem inf_f32 : Ideal.ofBits .f32 0x7F800000#32 = ⊤ := by
  simp [Ideal.ofBits, Ideal.ieee]

/-- The sigmoid through the hyperbolic tangent of half the argument. -/
def sigT (x : EReal) : EReal := ((1 / 2 : ℝ) : EReal) * Ideal.tanh (((1 / 2 : ℝ) : EReal) * x) + ((1 / 2 : ℝ) : EReal)

/-- The sigmoid-weighted unit through the hyperbolic tangent: `t tanh t + t` at half the argument. -/
def actT (x : EReal) : EReal :=
  (((1 / 2 : ℝ) : EReal) * x) * Ideal.tanh (((1 / 2 : ℝ) : EReal) * x) + ((1 / 2 : ℝ) : EReal) * x

/-- The sigmoid through the exponential. -/
def sigE (x : EReal) : EReal := Ideal.div 1 (1 + Ideal.exp (-x))

/-- The sigmoid-weighted unit through the exponential. -/
def actE (x : EReal) : EReal := x * sigE x

/-- Half of one plus the hyperbolic tangent of `r / 2` is `1 / (1 + exp (-r))`. -/
theorem real_sigmoid (r : ℝ) : 1 / 2 * Real.tanh (1 / 2 * r) + 1 / 2 = (1 + Real.exp (-r))⁻¹ := by
  have hsq : Real.exp (-r) = Real.exp (-(1 / 2 * r)) * Real.exp (-(1 / 2 * r)) := by
    rw [← Real.exp_add]; congr 1; ring
  have hone : Real.exp (1 / 2 * r) * Real.exp (-(1 / 2 * r)) = 1 := by
    rw [← Real.exp_add, add_neg_cancel, Real.exp_zero]
  have hp := Real.exp_pos (1 / 2 * r)
  have hn := Real.exp_pos (-(1 / 2 * r))
  rw [Real.tanh_eq_sinh_div_cosh, Real.sinh_eq, Real.cosh_eq, hsq]
  set a := Real.exp (1 / 2 * r)
  set b := Real.exp (-(1 / 2 * r))
  have h1 : a + b ≠ 0 := by positivity
  have h2 : 1 + b * b ≠ 0 := by positivity
  field_simp
  nlinarith [hone]

/-- The two sigmoids are one function on all the extended reals. -/
theorem sigT_eq_sigE (x : EReal) : sigT x = sigE x := by
  show _ = Ideal.logistic x
  induction x using EReal.rec with
  | bot =>
    rw [Ideal.logistic_bot, sigT, EReal.coe_mul_bot_of_pos (by norm_num), Ideal.tanh_bot, ← EReal.coe_one, ← EReal.coe_neg,
      ← EReal.coe_mul, ← EReal.coe_add]
    norm_num
  | coe r =>
    rw [Ideal.logistic_coe, sigT, ← EReal.coe_mul, Ideal.tanh_coe, ← EReal.coe_mul, ← EReal.coe_add, real_sigmoid]
  | top =>
    rw [Ideal.logistic_top, sigT, EReal.coe_mul_top_of_pos (by norm_num), Ideal.tanh_top, ← EReal.coe_one,
      ← EReal.coe_mul, ← EReal.coe_add]
    norm_num

/-! ## Real values -/

/-- An extended real that is a real. -/
def Fin1 (x : EReal) : Prop := ∃ r : ℝ, x = (r : EReal)

/-- The two sigmoid-weighted units agree on the reals (at minus infinity they do not). -/
theorem actT_eq_actE {x : EReal} (h : Fin1 x) : actT x = actE x := by
  obtain ⟨r, rfl⟩ := h
  have e : sigE (r : EReal) = (((1 + Real.exp (-r))⁻¹ : ℝ) : EReal) := Ideal.logistic_coe r
  rw [actE, e, actT, ← EReal.coe_mul, Ideal.tanh_coe, ← EReal.coe_mul, ← EReal.coe_add, ← EReal.coe_mul, ← real_sigmoid]
  congr 1
  ring

/-- The unit of a real is a real. -/
theorem Fin1.actE {x : EReal} (h : Fin1 x) : Fin1 (actE x) := by
  obtain ⟨r, rfl⟩ := h
  have e : sigE (r : EReal) = (((1 + Real.exp (-r))⁻¹ : ℝ) : EReal) := Ideal.logistic_coe r
  exact ⟨r * (1 + Real.exp (-r))⁻¹, by rw [Gated.actE, e, ← EReal.coe_mul]⟩

/-- A sum of two reals is a real. -/
theorem Fin1.add {x y : EReal} (hx : Fin1 x) (hy : Fin1 y) : Fin1 (x + y) := by
  obtain ⟨a, rfl⟩ := hx
  obtain ⟨b, rfl⟩ := hy
  exact ⟨a + b, (EReal.coe_add a b).symm⟩

/-- A product of two reals is a real. -/
theorem Fin1.mul {x y : EReal} (hx : Fin1 x) (hy : Fin1 y) : Fin1 (x * y) := by
  obtain ⟨a, rfl⟩ := hx
  obtain ⟨b, rfl⟩ := hy
  exact ⟨a * b, (EReal.coe_mul a b).symm⟩

/-- A finite sum of reals is a real. -/
theorem Fin1.sum {n : ℕ} {f : Fin n → EReal} (h : ∀ k, Fin1 (f k)) : Fin1 (∑ k, f k) := by
  choose g hg using h
  refine ⟨∑ k, g k, ?_⟩
  rw [Finset.sum_congr rfl fun k _ => hg k]
  induction (Finset.univ : Finset (Fin n)) using Finset.induction_on with
  | empty => simp
  | insert a s ha ih => rw [Finset.sum_insert ha, Finset.sum_insert ha, ih, EReal.coe_add]

/-- What lies below infinity in absolute value is a real. -/
theorem Fin1.of_abs {x : EReal} (h : max x (-x) < ⊤) : Fin1 x := by
  induction x using EReal.rec with
  | bot => simp at h
  | coe r => exact ⟨r, rfl⟩
  | top => simp at h

/-- Dividing by one changes nothing. -/
theorem div_unit (x : EReal) : Ideal.div x 1 = x := by
  rw [Ideal.div, if_neg one_ne_zero, ← EReal.coe_one, ← EReal.coe_inv, inv_one, EReal.coe_one, mul_one]

/-! ## One row through the perceptron -/

/-- One output of a linear layer: the row against a column of the weights, plus the bias. -/
def lin (x : Fin 256 → EReal) (w : Fin 256 → Fin 256 → EReal) (b : Fin 256 → EReal) (j : Fin 256) : EReal :=
  (∑ k, x k * w k j) + b j

/-- Two layers, each with its activation `act`, and one output column of a third layer. -/
def mlp (act : EReal → EReal) (x : Fin 256 → EReal) (w0 : Fin 256 → Fin 256 → EReal) (b0 : Fin 256 → EReal)
    (w1 : Fin 256 → Fin 256 → EReal) (b1 : Fin 256 → EReal) (w2 : Fin 256 → EReal) (b2 : EReal) : EReal :=
  (∑ k, act (lin (fun j => act (lin x w0 b0 j)) w1 b1 k) * w2 k) + b2

/-- The energy of an atom: its own, plus the perceptron's output weighted by the sigmoid of the gate's. -/
def energy (act gate : EReal → EReal) (x : Fin 256 → EReal) (e : EReal)
    (wm0 : Fin 256 → Fin 256 → EReal) (bm0 : Fin 256 → EReal) (wg0 : Fin 256 → Fin 256 → EReal) (bg0 : Fin 256 → EReal)
    (wm1 : Fin 256 → Fin 256 → EReal) (bm1 : Fin 256 → EReal) (wg1 : Fin 256 → Fin 256 → EReal) (bg1 : Fin 256 → EReal)
    (wm2 : Fin 256 → EReal) (bm2 : EReal) (wg2 : Fin 256 → EReal) (bg2 : EReal) : EReal :=
  e + mlp act x wm0 bm0 wm1 bm1 wm2 bm2 * gate (mlp act x wg0 bg0 wg1 bg1 wg2 bg2)

/-- A layer of reals is real. -/
theorem Fin1.lin {x : Fin 256 → EReal} {w : Fin 256 → Fin 256 → EReal} {b : Fin 256 → EReal} (hx : ∀ k, Fin1 (x k))
    (hw : ∀ k j, Fin1 (w k j)) (hb : ∀ j, Fin1 (b j)) (j : Fin 256) : Fin1 (lin x w b j) :=
  (Fin1.sum fun k => (hx k).mul (hw k j)).add (hb j)

/-- With a real row and real hidden layers the two spellings of the activation give one output, whatever the last
    layer's weights are. -/
theorem mlp_eq {x : Fin 256 → EReal} {w0 : Fin 256 → Fin 256 → EReal} {b0 : Fin 256 → EReal} {w1 : Fin 256 → Fin 256 → EReal}
    {b1 : Fin 256 → EReal} (hx : ∀ k, Fin1 (x k)) (hw0 : ∀ k j, Fin1 (w0 k j)) (hb0 : ∀ j, Fin1 (b0 j))
    (hw1 : ∀ k j, Fin1 (w1 k j)) (hb1 : ∀ j, Fin1 (b1 j)) (w2 : Fin 256 → EReal) (b2 : EReal) :
    mlp actT x w0 b0 w1 b1 w2 b2 = mlp actE x w0 b0 w1 b1 w2 b2 := by
  have h0 : (fun j => actT (Gated.lin x w0 b0 j)) = fun j => actE (Gated.lin x w0 b0 j) :=
    funext fun j => actT_eq_actE (Fin1.lin hx hw0 hb0 j)
  unfold mlp
  rw [h0]
  congr 1
  refine Finset.sum_congr rfl fun k _ => ?_
  rw [actT_eq_actE (Fin1.lin (fun j => (Fin1.lin hx hw0 hb0 j).actE) hw1 hb1 k)]

end Cert.Gated

end

end
-- ==== Proof.Ref.lean ====
/- What the reference computes: an atom's energy as the row function of its row, and a segment's energy as the sum over
   the atoms whose identifier is the segment's. -/
module

public import proofs.«01_k».proof.Proof.Gated
public import proofs.«01_k».proof.Proof.Gen.ReferenceIdeal.Read
public import Idealize.ShloMosaic.Lib.ValueIdxCoords
public import Idealize.ShloMosaic.Lib.ValueIdxRank1

@[expose] public section

noncomputable section

namespace Cert.Gated

open Idealize.ShloMosaic Idealize.ShloMosaic.ValueIdx

/-! ## Arrays as rows, matrices and vectors -/

/-- Row `i` of an array with 256 columns. -/
def row {n : ℕ} (x : (⟨2, ![n, 256]⟩ : Shape).Idx → EReal) (i : Fin n) (k : Fin 256) : EReal := x (ix2 i k)

/-- A square array as a matrix. -/
def mat (w : (⟨2, ![256, 256]⟩ : Shape).Idx → EReal) (k j : Fin 256) : EReal := w (ix2 k j)

/-- A rank-one array as a vector. -/
def vec (b : (⟨1, ![256]⟩ : Shape).Idx → EReal) (j : Fin 256) : EReal := b (ix1 j)

/-- The one column of an array. -/
def col (w : (⟨2, ![256, 1]⟩ : Shape).Idx → EReal) (k : Fin 256) : EReal := w (ix2 k u0)

/-- The one element of an array. -/
def one (b : (⟨1, ![1]⟩ : Shape).Idx → EReal) : EReal := b (ix1 u0)

/-- The energy of every atom, from the argument arrays. -/
def energies (act gate : EReal → EReal) (x : (⟨2, ![50000, 256]⟩ : Shape).Idx → EReal) (e : (⟨1, ![50000]⟩ : Shape).Idx → EReal)
    (wm0 : (⟨2, ![256, 256]⟩ : Shape).Idx → EReal) (bm0 : (⟨1, ![256]⟩ : Shape).Idx → EReal)
    (wg0 : (⟨2, ![256, 256]⟩ : Shape).Idx → EReal) (bg0 : (⟨1, ![256]⟩ : Shape).Idx → EReal)
    (wm1 : (⟨2, ![256, 256]⟩ : Shape).Idx → EReal) (bm1 : (⟨1, ![256]⟩ : Shape).Idx → EReal)
    (wg1 : (⟨2, ![256, 256]⟩ : Shape).Idx → EReal) (bg1 : (⟨1, ![256]⟩ : Shape).Idx → EReal)
    (wm2 : (⟨2, ![256, 1]⟩ : Shape).Idx → EReal) (bm2 : (⟨1, ![1]⟩ : Shape).Idx → EReal)
    (wg2 : (⟨2, ![256, 1]⟩ : Shape).Idx → EReal) (bg2 : (⟨1, ![1]⟩ : Shape).Idx → EReal) (i : Fin 50000) : EReal :=
  energy act gate (row x i) (e (ix1 i)) (mat wm0) (vec bm0) (mat wg0) (vec bg0) (mat wm1) (vec bm1) (mat wg1) (vec bg1)
    (col wm2) (one bm2) (col wg2) (one bg2)

/-- The sum of `e` over the atoms whose identifier is `g`. -/
def segSum {n : ℕ} (ids : Fin n → BitVec 32) (e : Fin n → EReal) (g : Fin 512) : EReal :=
  ∑ i, if ids i = BitVec.ofNat 32 g.val then e i else 0

/-- A word read signed is a small number exactly when it is that number's word. -/
theorem toInt_eq_small (b : BitVec 32) (g : Fin 512) : b.toInt = (g.val : ℤ) ↔ b = BitVec.ofNat 32 g.val := by
  have hg := g.isLt
  constructor
  · intro h
    apply BitVec.eq_of_toInt_eq
    rw [h, BitVec.toInt_ofNat']
    rw [Int.bmod_def]
    omega
  · rintro rfl
    rw [BitVec.toInt_ofNat', Int.bmod_def]
    omega

end Cert.Gated

namespace Cert.ReferenceIdeal.Read

open Cert.ReferenceIdeal Cert.ReferenceIdeal.Gen Cert.Gated Idealize.ShloMosaic Idealize.ShloMosaic.ValueIdx

variable (x0 : FVec Ideal S50000x256 .f32) (x1 : FVec Ideal S50000 .f32) (x2 : IVec S50000 32)
  (x4 : FVec Ideal S256x256 .f32) (x5 : FVec Ideal S256 .f32) (x6 : FVec Ideal S256x256 .f32) (x7 : FVec Ideal S256 .f32)
  (x8 : FVec Ideal S256x256 .f32) (x9 : FVec Ideal S256 .f32) (x10 : FVec Ideal S256x256 .f32) (x11 : FVec Ideal S256 .f32)
  (x12 : FVec Ideal S256x1 .f32) (x13 : FVec Ideal S1 .f32) (x14 : FVec Ideal S256x1 .f32) (x15 : FVec Ideal S1 .f32)

/-- The first layer before its activation. -/
theorem first_layer (i : Fin 50000) (j : Fin 256) :
    val_main_v3 (F := Ideal) x0 x4 x5 (ix2 i j) = lin (row x0 i) (mat x4) (vec x5) j := by
  rw [val_main_v3_apply, val_main_v0_apply, val_main_v2_apply, val_main_v1_apply, Ideal.addf_def]
  unfold lin
  congr 1
  · refine Finset.sum_congr rfl fun k _ => ?_
    rw [show lidx_main_v0 (ix2 i j) k = ix2 i k from eq_ix2 _, show ridx_main_v0 (ix2 i j) k = ix2 k j from eq_ix2 _]
    rfl
  · exact congrArg x5 (eq_ix1 _)

/-- The first layer. -/
theorem first_act (i : Fin 50000) (j : Fin 256) :
    val_main_v8 (F := Ideal) x0 x4 x5 (ix2 i j) = actE (lin (row x0 i) (mat x4) (vec x5) j) := by
  rw [val_main_v8_apply, val_main_call0_v5_apply, val_main_call0_v4_apply, val_main_call0_v3_apply, val_main_call0_v2_apply,
    val_main_call0_v1_apply, val_main_call0_v0_apply, val_main_call0_cst_apply, val_main_call0_cst_0_apply, first_layer]
  simp only [Ideal.mulf_def, Ideal.hostDivf_def, Ideal.addf_def, Ideal.hostUnary_exp_def, Ideal.hostNegf_def, Ideal.negf_def,
    Ideal.ofBits_def, unit_f32]
  rfl

/-- The second layer before its activation. -/
theorem second_layer (i : Fin 50000) (j : Fin 256) :
    val_main_v13 (F := Ideal) x0 x4 x5 x8 x9 (ix2 i j)
      = lin (fun j => actE (lin (row x0 i) (mat x4) (vec x5) j)) (mat x8) (vec x9) j := by
  rw [val_main_v13_apply, val_main_v10_apply, val_main_v12_apply, val_main_v11_apply, Ideal.addf_def]
  unfold lin
  congr 1
  · refine Finset.sum_congr rfl fun k _ => ?_
    rw [show lidx_main_v10 (ix2 i j) k = ix2 i k from eq_ix2 _, show ridx_main_v10 (ix2 i j) k = ix2 k j from eq_ix2 _,
      first_act]
    rfl
  · exact congrArg x9 (eq_ix1 _)

/-- The second layer. -/
theorem second_act (i : Fin 50000) (j : Fin 256) :
    val_main_v18 (F := Ideal) x0 x4 x5 x8 x9 (ix2 i j)
      = actE (lin (fun j => actE (lin (row x0 i) (mat x4) (vec x5) j)) (mat x8) (vec x9) j) := by
  rw [val_main_v18_apply, val_main_call2_v5_apply, val_main_call2_v4_apply, val_main_call2_v3_apply, val_main_call2_v2_apply,
    val_main_call2_v1_apply, val_main_call2_v0_apply, val_main_call2_cst_apply, val_main_call2_cst_0_apply, second_layer]
  simp only [Ideal.mulf_def, Ideal.hostDivf_def, Ideal.addf_def, Ideal.hostUnary_exp_def, Ideal.hostNegf_def, Ideal.negf_def,
    Ideal.ofBits_def, unit_f32]
  rfl

/-- The third layer's one output. -/
theorem third_layer (i : Fin 50000) :
    val_main_v23 (F := Ideal) x0 x4 x5 x8 x9 x12 x13 (ix2 i u0)
      = mlp actE (row x0 i) (mat x4) (vec x5) (mat x8) (vec x9) (col x12) (one x13) := by
  rw [val_main_v23_apply, val_main_v20_apply, val_main_v22_apply, val_main_v21_apply, Ideal.addf_def]
  unfold mlp
  congr 1
  · refine Finset.sum_congr rfl fun k _ => ?_
    rw [show lidx_main_v20 (ix2 i u0) k = ix2 i k from eq_ix2 _, show ridx_main_v20 (ix2 i u0) k = ix2 k u0 from eq_ix2 _,
      second_act]
    rfl
  · exact congrArg x13 (eq_ix1 _)

/-- The gate's branch is the main branch's function at the gate's weights. -/
theorem gate_branch : val_main_v27 (F := Ideal) x0 x6 x7 x10 x11 x14 x15 = val_main_v23 (F := Ideal) x0 x6 x7 x10 x11 x14 x15 := rfl

/-- The reference's energy of atom `i`. -/
theorem atom_energy (i : Fin 50000) :
    val_main_v38 (F := Ideal) x0 x1 x4 x5 x6 x7 x8 x9 x10 x11 x12 x13 x14 x15 (ix1 i)
      = energies actE sigE x0 x1 x4 x5 x6 x7 x8 x9 x10 x11 x12 x13 x14 x15 i := by
  rw [val_main_v38_apply, val_main_v37_apply, val_main_v36_apply, val_main_cst_1_apply, val_main_v35_apply,
    show idx_main_v35 (ix1 i) = ix2 i u0 from (eq_ix2 _).trans (by congr 1; exact Fin.ext (Nat.div_one _)),
    val_main_v34_apply, val_main_v33_apply, val_main_v32_apply, val_main_v31_apply, val_main_v30_apply, val_main_v29_apply,
    val_main_v28_apply, val_main_cst_apply, val_main_cst_0_apply, gate_branch, third_layer, third_layer]
  simp only [Ideal.mulf_def, Ideal.hostDivf_def, Ideal.addf_def, Ideal.hostUnary_exp_def, Ideal.hostNegf_def, Ideal.negf_def,
    Ideal.ofBits_def, unit_f32, div_unit]
  rfl

/-- The update at atom `i` lands on segment `g` exactly when the atom's identifier, read signed, is `g`. -/
theorem lands_iff (i : Fin 50000) (g : Fin 512) :
    scatter_S512_S50000x1_S50000_n_0_0_1.resultIdx? (ix1 i) (val_main_v40 (F := Ideal) x2) = some (ix1 g)
      ↔ (x2 (ix1 i)).toInt = (g.val : ℤ) := by
  have hs : scatter_S512_S50000x1_S50000_n_0_0_1.start (ix1 i) (val_main_v40 (F := Ideal) x2) 0 = (x2 (ix1 i)).toInt := by
    unfold ScatterDims.start
    rw [dif_pos (by decide), val_main_v40_apply]
    exact congrArg (fun y => (x2 y).toInt) ((eq_ix1 _).trans (congrArg ix1 (Fin.ext rfl)))
  have hw : scatter_S512_S50000x1_S50000_n_0_0_1.window (ix1 i) 0 = 0 := by
    unfold ScatterDims.window
    rw [dif_neg (by decide)]
  have hg := g.isLt
  unfold ScatterDims.resultIdx?
  constructor
  · intro h
    split at h
    · rename_i hin
      have hv := congrArg Fin.val (congrFun (Option.some.inj h) 0)
      have h0 := (hin 0).1
      rw [hs, hw] at h0
      dsimp only at hv
      rw [hs, hw] at hv
      change _ = g.val at hv
      omega
    · exact absurd h (by simp)
  · intro h
    have hin : ∀ a : Fin S512.rank, 0 ≤ scatter_S512_S50000x1_S50000_n_0_0_1.start (ix1 i) (val_main_v40 (F := Ideal) x2) a
          + scatter_S512_S50000x1_S50000_n_0_0_1.window (ix1 i) a
        ∧ scatter_S512_S50000x1_S50000_n_0_0_1.start (ix1 i) (val_main_v40 (F := Ideal) x2) a
          + scatter_S512_S50000x1_S50000_n_0_0_1.window (ix1 i) a < S512.size a := by
      intro a
      obtain rfl : a = 0 := Subsingleton.elim (α := Fin 1) _ _
      rw [hs, hw, h]
      show (0 : ℤ) ≤ g.val + (0 : ℕ) ∧ (g.val : ℤ) + (0 : ℕ) < (512 : ℕ)
      omega
    rw [dif_pos hin]
    refine congrArg some (funext fun a => ?_)
    obtain rfl : a = 0 := Subsingleton.elim (α := Fin 1) _ _
    refine Fin.ext ?_
    dsimp only
    rw [hs, hw, h]
    show ((g.val : ℤ) + (0 : ℕ)).toNat = g.val
    omega

/-- The reference's energy of segment `g`. -/
theorem segment_energy (g : Fin 512) :
    val_main_v41 (F := Ideal) x0 x1 x2 x4 x5 x6 x7 x8 x9 x10 x11 x12 x13 x14 x15 (ix1 g)
      = segSum (fun i => x2 (ix1 i)) (energies actE sigE x0 x1 x4 x5 x6 x7 x8 x9 x10 x11 x12 x13 x14 x15) g := by
  unfold val_main_v41
  show val_main_v39 (F := Ideal) (ix1 g) + ∑ j ∈ Finset.univ.filter
    (fun j => scatter_S512_S50000x1_S50000_n_0_0_1.resultIdx? j (val_main_v40 (F := Ideal) x2) = some (ix1 g)),
      val_main_v38 (F := Ideal) x0 x1 x4 x5 x6 x7 x8 x9 x10 x11 x12 x13 x14 x15 j = _
  rw [val_main_v39_apply, val_main_cst_2_apply, Ideal.ofBits_def, Ideal.ofBits_zero_f32, zero_add, Finset.sum_filter,
    ← Equiv.sum_comp (idxEquiv1 (n := 50000)).symm]
  unfold segSum
  refine Finset.sum_congr rfl fun i _ => ?_
  rw [show (idxEquiv1 (n := 50000)).symm i = ix1 i from rfl, atom_energy]
  exact if_congr ((lands_iff x2 i g).trans (toInt_eq_small _ g)) rfl rfl

/-- The third result: the segments' energies times one. -/
theorem scaled_energy (g : Fin 512) :
    val_main_v43 (F := Ideal) x0 x1 x2 x4 x5 x6 x7 x8 x9 x10 x11 x12 x13 x14 x15 (ix1 g)
      = 1 * segSum (fun i => x2 (ix1 i)) (energies actE sigE x0 x1 x4 x5 x6 x7 x8 x9 x10 x11 x12 x13 x14 x15) g := by
  rw [val_main_v43_apply, segment_energy, val_main_v42_apply, val_main_cst_3_apply, Ideal.ofBits_def, unit_f32]
  rfl

end Cert.ReferenceIdeal.Read

end

end
-- ==== Proof.Payload.lean ====
/- The body's arithmetic read at an index at the ideal values: an atom's energy as the row function of its row, and a
   segment's step as the sum over the block's atoms that carry the segment's identifier. -/
module

public import proofs.«01_k».proof.Proof.Ref
public import proofs.«01_k».proof.Proof.Gen.KernelIdeal.Skeleton
public import Idealize.ShloMosaic.Lib.Pipeline.Value
public import Idealize.ShloMosaic.Lib.Pointwise.ElementwiseCore
public import Idealize.ShloMosaic.Lib.Pointwise.ShapeOpsCore

@[expose] public section

noncomputable section

namespace Cert.KernelIdeal.Payload

open Cert.KernelIdeal Cert.KernelIdeal.Gen Cert.Gated Idealize.ShloMosaic.ValueIdx
open Idealize.ShloMosaic hiding ix1 ix2 addf_apply mulf_apply

/-- The element of a row stored as a one-row array. -/
def rowOf (b : (⟨2, ![1, 256]⟩ : Shape).Idx → EReal) (j : Fin 256) : EReal := b (ix2 u0 j)

/-! ## The three contractions and the spread of a row -/

/-- A hidden layer's product at an index. -/
theorem dense_apply (x : FVec Ideal S2000x256 .f32) (w : FVec Ideal S256x256 .f32) (r : Fin 2000) (j : Fin 256) :
    matmul dot_S2000x256_S256x256_S2000x256_1_0_0_1_n_n none x w (constant S2000x256 .f32 0x00000000#32) (ix2 r j)
      = ∑ k : Fin 256, row x r k * mat w k j := by
  refine (Ideal.matmul_constant_zero_apply _ _ _ _ _).trans ?_
  rw [← (contrEquiv1 dot_S2000x256_S256x256_S2000x256_1_0_0_1_n_n 256 rfl rfl).symm.sum_comp]
  refine Finset.sum_congr rfl fun k _ => ?_
  congr 1
  · refine congrArg x (funext fun a => Fin.ext ?_)
    fin_cases a
    · unfold DotDims.lhsIdx; rw [dif_neg (by decide), dif_pos (by decide)]; rfl
    · exact (DotDims.lhsIdx_val_of_single _ rfl _ _).trans (contrEquiv1_symm_val _ 256 rfl rfl k)
  · refine congrArg w (funext fun a => Fin.ext ?_)
    fin_cases a
    · exact (DotDims.rhsIdx_val_of_single _ rfl _ _).trans (contrEquiv1_symm_val _ 256 rfl rfl k)
    · unfold DotDims.rhsIdx; rw [dif_neg (by decide), dif_pos (by decide)]; rfl

/-- The last layer's product at an index. -/
theorem last_apply (x : FVec Ideal S2000x256 .f32) (w : FVec Ideal S256x1 .f32) (r : Fin 2000) :
    matmul dot_S2000x256_S256x1_S2000x1_1_0_0_1_n_n none x w (constant S2000x1 .f32 0x00000000#32) (ix2 r u0)
      = ∑ k : Fin 256, row x r k * col w k := by
  refine (Ideal.matmul_constant_zero_apply _ _ _ _ _).trans ?_
  rw [← (contrEquiv1 dot_S2000x256_S256x1_S2000x1_1_0_0_1_n_n 256 rfl rfl).symm.sum_comp]
  refine Finset.sum_congr rfl fun k _ => ?_
  congr 1
  · refine congrArg x (funext fun a => Fin.ext ?_)
    fin_cases a
    · unfold DotDims.lhsIdx; rw [dif_neg (by decide), dif_pos (by decide)]; rfl
    · exact (DotDims.lhsIdx_val_of_single _ rfl _ _).trans (contrEquiv1_symm_val _ 256 rfl rfl k)
  · refine congrArg w (funext fun a => Fin.ext ?_)
    fin_cases a
    · exact (DotDims.rhsIdx_val_of_single _ rfl _ _).trans (contrEquiv1_symm_val _ 256 rfl rfl k)
    · unfold DotDims.rhsIdx; rw [dif_neg (by decide), dif_pos (by decide)]; rfl

/-- The product over a block's atoms at a segment. -/
theorem gather_apply (e : FVec Ideal S2000x1 .f32) (w : FVec Ideal S2000x512 .f32) (g : Fin 512) :
    matmul dot_S2000x1_S2000x512_S1x512_0_0_1_1_n_n none e w (constant S1x512 .f32 0x00000000#32) (ix2 u0 g)
      = ∑ r : Fin 2000, e (ix2 r u0) * w (ix2 r g) := by
  refine (Ideal.matmul_constant_zero_apply _ _ _ _ _).trans ?_
  rw [← (contrEquiv1 dot_S2000x1_S2000x512_S1x512_0_0_1_1_n_n 2000 rfl rfl).symm.sum_comp]
  refine Finset.sum_congr rfl fun k _ => ?_
  congr 1
  · refine congrArg e (funext fun a => Fin.ext ?_)
    fin_cases a
    · exact (DotDims.lhsIdx_val_of_single _ rfl _ _).trans (contrEquiv1_symm_val _ 2000 rfl rfl k)
    · unfold DotDims.lhsIdx; rw [dif_neg (by decide), dif_pos (by decide)]; rfl
  · refine congrArg w (funext fun a => Fin.ext ?_)
    fin_cases a
    · exact (DotDims.rhsIdx_val_of_single _ rfl _ _).trans (contrEquiv1_symm_val _ 2000 rfl rfl k)
    · unfold DotDims.rhsIdx; rw [dif_neg (by decide), dif_pos (by decide)]; rfl

/-- A bias row spread over the block's atoms. -/
theorem bias_apply (b : FVec Ideal S1x256 .f32) (r : Fin 2000) (j : Fin 256) :
    broadcastTo S2000x256 b broadcasts_S1x256_S2000x256 (ix2 r j) = rowOf b j :=
  broadcastTo_apply b _ _ (ix2 u0 j) fun a => by fin_cases a <;> rfl

/-- A single bias spread over the block's atoms. -/
theorem bias1_apply (b : FVec Ideal S1x1 .f32) (r : Fin 2000) :
    broadcastTo S2000x1 b broadcasts_S1x1_S2000x1 (ix2 r u0) = b (ix2 u0 u0) :=
  broadcastTo_apply b _ _ (ix2 u0 u0) fun a => by fin_cases a <;> rfl

/-- The identifiers spread over the segments. -/
theorem ids_apply (b : IVec S2000x1 32) (r : Fin 2000) (g : Fin 512) :
    broadcastTo S2000x512 b broadcasts_S2000x1_S2000x512 (ix2 r g) = b (ix2 r u0) :=
  broadcastTo_apply b _ _ (ix2 r u0) fun a => by fin_cases a <;> rfl

/-! ## The body's steps -/

/-- The main branch's hidden layers on a block. -/
theorem main_hidden (x : FVec Ideal S2000x256 .f32) (w0 : FVec Ideal S256x256 .f32) (b0 : FVec Ideal S1x256 .f32)
    (w1 : FVec Ideal S256x256 .f32) (b1 : FVec Ideal S1x256 .f32) (r : Fin 2000) (j : Fin 256) :
    k0_pay3 (F := Ideal) x w0 b0 w1 b1 (ix2 r j)
      = actT (lin (fun k => actT (lin (row x r) (mat w0) (rowOf b0) k)) (mat w1) (rowOf b1) j) := by
  unfold k0_pay3
  simp only [shapeCast_self, addf_apply, mulf_apply, broadcast_apply, tanh_apply, dense_apply, bias_apply, row,
    Scalar.ofBits, Ideal.ofBits_def, Ideal.addf_def, Ideal.mulf_def, Ideal.tanh_def, half_f32, actT, lin]

/-- The gate branch's hidden layers on a block, before the second bias. -/
theorem gate_hidden (x : FVec Ideal S2000x256 .f32) (w0 : FVec Ideal S256x256 .f32) (b0 : FVec Ideal S1x256 .f32)
    (w1 : FVec Ideal S256x256 .f32) (r : Fin 2000) (j : Fin 256) :
    k0_pay4 (F := Ideal) x w0 b0 w1 (ix2 r j)
      = ∑ k, actT (lin (row x r) (mat w0) (rowOf b0) k) * mat w1 k j := by
  unfold k0_pay4
  simp only [shapeCast_self, addf_apply, mulf_apply, broadcast_apply, tanh_apply, dense_apply, bias_apply, row,
    Scalar.ofBits, Ideal.ofBits_def, Ideal.addf_def, Ideal.mulf_def, Ideal.tanh_def, half_f32, actT, lin]

/-- The energy the body computes for atom `r` of its block. -/
theorem atom_apply (x : FVec Ideal S2000x256 .f32) (e : FVec Ideal S2000x1 .f32)
    (wm0 : FVec Ideal S256x256 .f32) (bm0 : FVec Ideal S1x256 .f32) (wg0 : FVec Ideal S256x256 .f32) (bg0 : FVec Ideal S1x256 .f32)
    (wm1 : FVec Ideal S256x256 .f32) (bm1 : FVec Ideal S1x256 .f32) (wg1 : FVec Ideal S256x256 .f32) (bg1 : FVec Ideal S1x256 .f32)
    (wm2 : FVec Ideal S256x1 .f32) (bm2 : FVec Ideal S1x1 .f32) (wg2 : FVec Ideal S256x1 .f32) (bg2 : FVec Ideal S1x1 .f32)
    (r : Fin 2000) :
    k0_pay5 (F := Ideal) (k0_pay3 x wm0 bm0 wm1 bm1) (k0_pay4 x wg0 bg0 wg1) bg1 wm2 bm2 wg2 bg2 e (ix2 r u0)
      = energy actT sigT (row x r) (e (ix2 r u0)) (mat wm0) (rowOf bm0) (mat wg0) (rowOf bg0) (mat wm1) (rowOf bm1)
          (mat wg1) (rowOf bg1) (col wm2) (bm2 (ix2 u0 u0)) (col wg2) (bg2 (ix2 u0 u0)) := by
  unfold k0_pay5
  simp only [shapeCast_self, addf_apply, mulf_apply, broadcast_apply, tanh_apply, last_apply, bias_apply, bias1_apply, row,
    main_hidden, gate_hidden,
    Scalar.ofBits, Ideal.ofBits_def, Ideal.addf_def, Ideal.mulf_def, Ideal.tanh_def, half_f32]
  rfl

/-- The one-hot entry of an atom and a segment is one where the identifier is the segment's and zero elsewhere. -/
theorem onehot (e : EReal) (a b : BitVec 32) :
    e * (FloatOps.sitofp (F := Ideal) .f32 ((IntOp.cmpi .eq a b).setWidth 32)) = if a = b then e else 0 := by
  by_cases h : a = b
  · subst h
    rw [if_pos rfl]
    show e * (((((IntOp.cmpi .eq a a).setWidth 32).toInt : ℤ) : ℝ) : EReal) = e
    simp [IntOp.cmpi]
  · rw [if_neg h]
    show e * (((((IntOp.cmpi .eq a b).setWidth 32).toInt : ℤ) : ℝ) : EReal) = 0
    simp [IntOp.cmpi, beq_eq_false_iff_ne.mpr h]

/-- The segment block after a block's energies `e` are added: each segment takes its own atoms. -/
theorem step_apply (e : FVec Ideal S2000x1 .f32) (ids : IVec S2000x1 32) (acc : FVec Ideal S1x512 .f32) (g : Fin 512) :
    k0_pay2 e (iota .tc S2000x512 32 [1] iota_S2000x512_d1_w32) (k0_pay6 (F := Ideal) ids) acc (ix2 u0 g)
      = acc (ix2 u0 g) + segSum (fun r => ids (ix2 r u0)) (fun r => e (ix2 r u0)) g := by
  unfold k0_pay2 k0_pay6 segSum
  simp only [shapeCast_self, addf_apply, gather_apply, Ideal.addf_def, sitofp_apply, extui_apply, cmpi_apply, ids_apply, iota_apply, onehot,
    List.foldl_cons, List.foldl_nil, Nat.zero_mul, Nat.zero_add]

/-- The block the first point starts from is zero. -/
theorem start_apply (g : Fin 512) : k0_pay1 (F := Ideal) (ix2 u0 g) = 0 := by
  unfold k0_pay1
  simp only [broadcast_apply, Scalar.ofBits, Ideal.ofBits_def, Ideal.ofBits_zero_f32]

end Cert.KernelIdeal.Payload

end

end
-- ==== Proof.Array.lean ====
/- What the kernel's two output arrays hold when the grid has run: every atom's energy, and every segment's sum. -/
module

public import proofs.«01_k».proof.Proof.Block
public import proofs.«01_k».proof.Proof.Payload
public import Idealize.ShloMosaic.Lib.StableHlo.Run

@[expose] public section

set_option maxRecDepth 16384

noncomputable section

namespace Cert.KernelIdeal.Arrays

open Cert.KernelIdeal Cert.KernelIdeal.Gen Cert.KernelIdeal.Payload Cert.Gated Idealize.ShloMosaic.ValueIdx Idealize.ShloMosaic.TcCoe Idealize.SL.Sem
open Idealize.ShloMosaic hiding ix1 ix2 eq_ix2 addf_apply mulf_apply
open Idealize.ShloMosaic.Pipeline (Dat)

variable (m : (ℓ : Loc nD τ sig) → Buf (Elt Ideal) ℓ)

/-! ## The reshaped arguments -/

/-- The energies of the atoms enter as a column. -/
theorem entry_v0 (c : Dev nD) : V m c main_v0 = shapeCast S50000x1 (m ((c : Thread nD τ).loc main_arg1)) shapeCasts_S50000_S50000x1 := by
  show StableHlo.after hostOps0 (fun b => m (c, b)) (Proc.devRef .tc main_v0) = _
  after_results
  rfl

/-- The identifiers of the atoms enter as a column. -/
theorem entry_v1 (c : Dev nD) : V m c main_v1 = shapeCast S50000x1 (m ((c : Thread nD τ).loc main_arg2)) shapeCasts_S50000_S50000x1 := by
  show StableHlo.after hostOps0 (fun b => m (c, b)) (Proc.devRef .tc main_v1) = _
  after_results
  rfl

/-- The main branch's first bias enters as a row. -/
theorem entry_v2 (c : Dev nD) : V m c main_v2 = shapeCast S1x256 (m ((c : Thread nD τ).loc main_arg5)) shapeCasts_S256_S1x256 := by
  show StableHlo.after hostOps0 (fun b => m (c, b)) (Proc.devRef .tc main_v2) = _
  after_results
  rfl

/-- The gate branch's first bias enters as a row. -/
theorem entry_v3 (c : Dev nD) : V m c main_v3 = shapeCast S1x256 (m ((c : Thread nD τ).loc main_arg7)) shapeCasts_S256_S1x256 := by
  show StableHlo.after hostOps0 (fun b => m (c, b)) (Proc.devRef .tc main_v3) = _
  after_results
  rfl

/-- The main branch's second bias enters as a row. -/
theorem entry_v4 (c : Dev nD) : V m c main_v4 = shapeCast S1x256 (m ((c : Thread nD τ).loc main_arg9)) shapeCasts_S256_S1x256 := by
  show StableHlo.after hostOps0 (fun b => m (c, b)) (Proc.devRef .tc main_v4) = _
  after_results
  rfl

/-- The gate branch's second bias enters as a row. -/
theorem entry_v5 (c : Dev nD) : V m c main_v5 = shapeCast S1x256 (m ((c : Thread nD τ).loc main_arg11)) shapeCasts_S256_S1x256 := by
  show StableHlo.after hostOps0 (fun b => m (c, b)) (Proc.devRef .tc main_v5) = _
  after_results
  rfl

/-- The main branch's last bias enters as a one-element array. -/
theorem entry_v6 (c : Dev nD) : V m c main_v6 = shapeCast S1x1 (m ((c : Thread nD τ).loc main_arg13)) shapeCasts_S1_S1x1 := by
  show StableHlo.after hostOps0 (fun b => m (c, b)) (Proc.devRef .tc main_v6) = _
  after_results
  rfl

/-- The gate branch's last bias enters as a one-element array. -/
theorem entry_v7 (c : Dev nD) : V m c main_v7 = shapeCast S1x1 (m ((c : Thread nD τ).loc main_arg15)) shapeCasts_S1_S1x1 := by
  show StableHlo.after hostOps0 (fun b => m (c, b)) (Proc.devRef .tc main_v7) = _
  after_results
  rfl

/-! ## The blocks in terms of the arguments -/

/-- Atom `r` of the block of point `t`, in the whole array. -/
def atom (t : Fin cfg0.N) (r : Fin 2000) : Fin 50000 :=
  ⟨t.val * 2000 + r.val, by have h := t.isLt; have hN : cfg0.N = 25 := N_0; have := r.isLt; omega⟩

/-- A row stored as a one-row array is the vector it was made of. -/
theorem rowOf_reshape (b : FVec Ideal S256 .f32) : rowOf (shapeCast S1x256 b shapeCasts_S256_S1x256) = vec b :=
  funext fun j => shapeCast_apply b _ _ (ix1 j) (by simp [Shape.rowMajor_val_one, Shape.rowMajor_val_two, u0])

/-- A column read at an atom. -/
theorem column_reshape {α : Type} (x : S50000.Idx → α) (i : Fin 50000) :
    shapeCast S50000x1 x shapeCasts_S50000_S50000x1 (ix2 i u0) = x (ix1 i) :=
  shapeCast_apply x _ _ (ix1 i) (by simp [Shape.rowMajor_val_one, Shape.rowMajor_val_two, u0])

/-- A single bias stored as a one-element array. -/
theorem one_reshape (b : FVec Ideal S1 .f32) : shapeCast S1x1 b shapeCasts_S1_S1x1 (ix2 u0 u0) = one b :=
  shapeCast_apply b _ _ (ix1 u0) (by simp [Shape.rowMajor_val_one, Shape.rowMajor_val_two, u0])

/-- The features' block moves down the atoms with the point. -/
theorem index0 : ∀ t : Fin grid0.N, win0_0.index t 0 = t.val ∧ win0_0.index t 1 = 0 := by decide +kernel
/-- The energies' block moves down the atoms with the point. -/
theorem index1 : ∀ t : Fin grid0.N, win0_1.index t 0 = t.val ∧ win0_1.index t 1 = 0 := by decide +kernel
/-- The identifiers' block moves down the atoms with the point. -/
theorem index2 : ∀ t : Fin grid0.N, win0_2.index t 0 = t.val ∧ win0_2.index t 1 = 0 := by decide +kernel
/-- The block of energies written moves down the atoms with the point. -/
theorem index15 : ∀ t : Fin grid0.N, win0_15.index t 0 = t.val ∧ win0_15.index t 1 = 0 := by decide +kernel

/-- The features' block at point `t`. -/
theorem features_block (c : Dev nD) (t : Fin cfg0.N) (r : Fin 2000) :
    row (n := 2000) (iblk m c 0 t) r = row (n := 50000) (m ((c : Thread nD τ).loc main_arg0)) (atom t r) := by
  funext k
  show iblk m c 0 t (ix2 r k) = _
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t 0 * 2000 + 1 * r.val = t.val * 2000 + r.val; rw [(index0 t).1]; omega
  | ⟨1, _⟩ => show win0_0.index t 1 * 256 + 1 * k.val = k.val; rw [(index0 t).2]; omega

/-- The energies' block at point `t`. -/
theorem energies_block (c : Dev nD) (t : Fin cfg0.N) (r : Fin 2000) :
    (iblk m c 1 t : FVec Ideal S2000x1 .f32) (ix2 r u0) = m ((c : Thread nD τ).loc main_arg1) (ix1 (atom t r)) := by
  unfold iblk
  rw [View.read_apply]
  show V m c main_v0 _ = _
  rw [entry_v0]
  refine Eq.trans (congrArg _ (funext fun a => Fin.ext ?_)) (column_reshape _ (atom t r))
  match a with
  | ⟨0, _⟩ => show win0_1.index t 0 * 2000 + 1 * r.val = t.val * 2000 + r.val; rw [(index1 t).1]; omega
  | ⟨1, _⟩ => show win0_1.index t 1 * 1 + 1 * 0 = 0; rw [(index1 t).2]

/-- The identifiers' block at point `t`. -/
theorem ids_block (c : Dev nD) (t : Fin cfg0.N) (r : Fin 2000) :
    (iblk m c 2 t : IVec S2000x1 32) (ix2 r u0) = m ((c : Thread nD τ).loc main_arg2) (ix1 (atom t r)) := by
  unfold iblk
  rw [View.read_apply]
  show V m c main_v1 _ = _
  rw [entry_v1]
  refine Eq.trans (congrArg _ (funext fun a => Fin.ext ?_)) (column_reshape _ (atom t r))
  match a with
  | ⟨0, _⟩ => show win0_2.index t 0 * 2000 + 1 * r.val = t.val * 2000 + r.val; rw [(index2 t).1]; omega
  | ⟨1, _⟩ => show win0_2.index t 1 * 1 + 1 * 0 = 0; rw [(index2 t).2]

/-- The main branch's first weights are staged whole. -/
theorem whole3 (c : Dev nD) (t : Fin cfg0.N) : iblk m c 3 t = m ((c : Thread nD τ).loc main_arg4) :=
  (Memref.read_access_unit_zero (Elt Ideal) main_arg4 (funext fun a => by fin_cases a <;> rfl) _ _).trans (V_main_arg4 m c)

/-- The main branch's first bias is staged whole. -/
theorem whole4 (c : Dev nD) (t : Fin cfg0.N) : iblk m c 4 t = shapeCast S1x256 (m ((c : Thread nD τ).loc main_arg5)) shapeCasts_S256_S1x256 :=
  (Memref.read_access_unit_zero (Elt Ideal) main_v2 (funext fun a => by fin_cases a <;> rfl) _ _).trans (entry_v2 m c)

/-- The gate branch's first weights are staged whole. -/
theorem whole5 (c : Dev nD) (t : Fin cfg0.N) : iblk m c 5 t = m ((c : Thread nD τ).loc main_arg6) :=
  (Memref.read_access_unit_zero (Elt Ideal) main_arg6 (funext fun a => by fin_cases a <;> rfl) _ _).trans (V_main_arg6 m c)

/-- The gate branch's first bias is staged whole. -/
theorem whole6 (c : Dev nD) (t : Fin cfg0.N) : iblk m c 6 t = shapeCast S1x256 (m ((c : Thread nD τ).loc main_arg7)) shapeCasts_S256_S1x256 :=
  (Memref.read_access_unit_zero (Elt Ideal) main_v3 (funext fun a => by fin_cases a <;> rfl) _ _).trans (entry_v3 m c)

/-- The main branch's second weights are staged whole. -/
theorem whole7 (c : Dev nD) (t : Fin cfg0.N) : iblk m c 7 t = m ((c : Thread nD τ).loc main_arg8) :=
  (Memref.read_access_unit_zero (Elt Ideal) main_arg8 (funext fun a => by fin_cases a <;> rfl) _ _).trans (V_main_arg8 m c)

/-- The main branch's second bias is staged whole. -/
theorem whole8 (c : Dev nD) (t : Fin cfg0.N) : iblk m c 8 t = shapeCast S1x256 (m ((c : Thread nD τ).loc main_arg9)) shapeCasts_S256_S1x256 :=
  (Memref.read_access_unit_zero (Elt Ideal) main_v4 (funext fun a => by fin_cases a <;> rfl) _ _).trans (entry_v4 m c)

/-- The gate branch's second weights are staged whole. -/
theorem whole9 (c : Dev nD) (t : Fin cfg0.N) : iblk m c 9 t = m ((c : Thread nD τ).loc main_arg10) :=
  (Memref.read_access_unit_zero (Elt Ideal) main_arg10 (funext fun a => by fin_cases a <;> rfl) _ _).trans (V_main_arg10 m c)

/-- The gate branch's second bias is staged whole. -/
theorem whole10 (c : Dev nD) (t : Fin cfg0.N) : iblk m c 10 t = shapeCast S1x256 (m ((c : Thread nD τ).loc main_arg11)) shapeCasts_S256_S1x256 :=
  (Memref.read_access_unit_zero (Elt Ideal) main_v5 (funext fun a => by fin_cases a <;> rfl) _ _).trans (entry_v5 m c)

/-- The main branch's last weights are staged whole. -/
theorem whole11 (c : Dev nD) (t : Fin cfg0.N) : iblk m c 11 t = m ((c : Thread nD τ).loc main_arg12) :=
  (Memref.read_access_unit_zero (Elt Ideal) main_arg12 (funext fun a => by fin_cases a <;> rfl) _ _).trans (V_main_arg12 m c)

/-- The main branch's last bias is staged whole. -/
theorem whole12 (c : Dev nD) (t : Fin cfg0.N) : iblk m c 12 t = shapeCast S1x1 (m ((c : Thread nD τ).loc main_arg13)) shapeCasts_S1_S1x1 :=
  (Memref.read_access_unit_zero (Elt Ideal) main_v6 (funext fun a => by fin_cases a <;> rfl) _ _).trans (entry_v6 m c)

/-- The gate branch's last weights are staged whole. -/
theorem whole13 (c : Dev nD) (t : Fin cfg0.N) : iblk m c 13 t = m ((c : Thread nD τ).loc main_arg14) :=
  (Memref.read_access_unit_zero (Elt Ideal) main_arg14 (funext fun a => by fin_cases a <;> rfl) _ _).trans (V_main_arg14 m c)

/-- The gate branch's last bias is staged whole. -/
theorem whole14 (c : Dev nD) (t : Fin cfg0.N) : iblk m c 14 t = shapeCast S1x1 (m ((c : Thread nD τ).loc main_arg15)) shapeCasts_S1_S1x1 :=
  (Memref.read_access_unit_zero (Elt Ideal) main_v7 (funext fun a => by fin_cases a <;> rfl) _ _).trans (entry_v7 m c)

/-! ## The energies -/

/-- The energy of every atom as the kernel spells it, from the launched arguments. -/
def atomEnergy (c : Dev nD) : Fin 50000 → EReal :=
  energies actT sigT (m ((c : Thread nD τ).loc main_arg0)) (m ((c : Thread nD τ).loc main_arg1)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10))
    (m ((c : Thread nD τ).loc main_arg11)) (m ((c : Thread nD τ).loc main_arg12)) (m ((c : Thread nD τ).loc main_arg13))
    (m ((c : Thread nD τ).loc main_arg14)) (m ((c : Thread nD τ).loc main_arg15))

/-- The identifier of every atom, from the launched arguments. -/
def atomId (c : Dev nD) (i : Fin 50000) : BitVec 32 := m ((c : Thread nD τ).loc main_arg2) (ix1 i)

/-- The energies point `t` computes are those of its atoms. -/
theorem atomBlock_apply (c : Dev nD) (t : Fin cfg0.N) (r : Fin 2000) : atomBlock m c t (ix2 r u0) = atomEnergy m c (atom t r) := by
  unfold atomBlock
  refine (atom_apply _ _ _ _ _ _ _ _ _ _ _ _ _ _ r).trans ?_
  unfold atomEnergy energies
  rw [features_block, energies_block, whole3, whole4, whole5, whole6, whole7, whole8, whole9, whole10, whole11, whole12, whole13, whole14]
  rw [rowOf_reshape, rowOf_reshape, rowOf_reshape, rowOf_reshape, one_reshape, one_reshape]

/-- Every point leaves its atoms' energies in the energy block. -/
theorem atoms_at (c : Dev nD) (t : Fin cfg0.N) : (outsAt0 m c t.val t.isLt).1 = atomBlock m c t := by
  by_cases h : t.val % 25 = 0
  · exact first_atoms m c t h
  · exact later_atoms m c t h

/-! ## The sums -/

/-- What point `t` adds to segment `g`: the energies of its atoms that carry `g`. -/
def share (c : Dev nD) (t : Fin cfg0.N) (g : Fin 512) : EReal :=
  segSum (fun r => atomId m c (atom t r)) (fun r => atomEnergy m c (atom t r)) g

/-- One point's step on the segment block. -/
theorem segStep_apply (c : Dev nD) (t : Fin cfg0.N) (acc : FVec Ideal S1x512 .f32) (g : Fin 512) :
    segStep m c t acc (ix2 u0 g) = acc (ix2 u0 g) + share m c t g := by
  unfold segStep
  refine (step_apply _ _ _ g).trans ?_
  unfold share
  simp only [ids_block, atomBlock_apply]
  rfl

/-- After point `n` the segment block holds the shares of the points up to `n`. -/
theorem segs_at (c : Dev nD) (g : Fin 512) : ∀ (n : ℕ) (h : n < cfg0.N),
    ((outsAt0 m c n h).2 : FVec Ideal S1x512 .f32) (ix2 u0 g) = ∑ t with t.val ≤ n, share m c t g := by
  intro n
  induction n with
  | zero =>
    intro h
    have e : (Finset.univ.filter fun t : Fin cfg0.N => t.val ≤ 0) = {⟨0, h⟩} := by
      ext t; simp [Fin.ext_iff]
    rw [e, Finset.sum_singleton]
    refine (congrFun (first_segs m c ⟨0, h⟩ rfl) _).trans ?_
    rw [segStep_apply, start_apply, zero_add]
  | succ n ih =>
    intro h
    have hN : cfg0.N = 25 := N_0
    have hB : ¬(⟨n + 1, h⟩ : Fin cfg0.N).val % 25 = 0 := by dsimp only; omega
    have e : (Finset.univ.filter fun t : Fin cfg0.N => t.val ≤ n + 1)
        = insert ⟨n + 1, h⟩ (Finset.univ.filter fun t : Fin cfg0.N => t.val ≤ n) := by
      ext t; simp [Fin.ext_iff]; omega
    rw [e, Finset.sum_insert (by simp), add_comm (share m c ⟨n + 1, h⟩ g), ← ih (Nat.lt_of_succ_lt h)]
    refine (congrFun (later_segs m c ⟨n + 1, h⟩ hB) _).trans ?_
    rw [segStep_apply]
    rfl

/-- A sum over the points and the atoms of their blocks is the sum over all atoms. -/
theorem sum_atoms (f : Fin 50000 → EReal) : ∑ t : Fin cfg0.N, ∑ r : Fin 2000, f (atom t r) = ∑ i, f i := by
  rw [← Fintype.sum_prod_type']
  refine Fintype.sum_equiv (((finCongr N_0).prodCongr (Equiv.refl (Fin 2000))).trans
    ((finProdFinEquiv (m := 25) (n := 2000)).trans (finCongr (by norm_num)))) _ _ fun x => congrArg f (Fin.ext ?_)
  simp [atom, finProdFinEquiv]
  omega

/-- After the last point the segment block holds every segment's sum. -/
theorem segs_last (c : Dev nD) (h : 24 < cfg0.N) (g : Fin 512) :
    ((outsAt0 m c 24 h).2 : FVec Ideal S1x512 .f32) (ix2 u0 g) = segSum (atomId m c) (atomEnergy m c) g := by
  have e : (Finset.univ.filter fun t : Fin cfg0.N => t.val ≤ 24) = Finset.univ := by
    ext t
    have ht := t.isLt
    have hN : cfg0.N = 25 := N_0
    simp; omega
  rw [segs_at, e]
  exact sum_atoms fun i => if atomId m c i = BitVec.ofNat 32 g.val then atomEnergy m c i else 0

/-! ## The arrays the grid leaves -/

/-- The energies as the column the kernel writes. -/
def atomArray (c : Dev nD) : Buf (Elt Ideal) ((c : Thread nD τ).loc main_v8_0) := fun i => atomEnergy m c (i 0)

/-- The sums as the row the kernel writes. -/
def segArray (c : Dev nD) : Buf (Elt Ideal) ((c : Thread nD τ).loc main_v8_1) := fun i => segSum (atomId m c) (atomEnergy m c) (i 1)

/-- Every write-back of an energy block writes its part of the column. -/
theorem atoms_flushed (c : Dev nD) (t : Fin cfg0.N) (_ : (cfg0.win 15).flush t = true) :
    (dats m 0 c).flushed 15 t = ((cfg0.win 15).blk t).view.read (Elt Ideal) (atomArray m c) := by
  show (cfg0.win 15).cut (grid0.coords t) ((dats m 0 c).after 15 t) = _
  rw [after0_15, atoms_at]
  funext j
  rw [View.read_apply]
  obtain ⟨r, z, rfl⟩ : ∃ (r : Fin 2000) (z : Fin 1), j = ix2 r z := ⟨j 0, j 1, eq_ix2 j⟩
  obtain rfl : z = u0 := Subsingleton.elim _ _
  refine (atomBlock_apply m c t r).trans ?_
  refine congrArg (atomEnergy m c) (Fin.ext ?_)
  show t.val * 2000 + r.val = win0_15.index t 0 * 2000 + 1 * r.val
  rw [(index15 t).1]; omega

/-- The column of energies when the grid has run. -/
theorem atoms_final (c : Dev nD) : (dats m 0 c).arrAt 15 cfg0.N = atomArray m c :=
  (dats m 0 c).arrAt_eq_of_cover 15 (atomArray m c) (atoms_flushed m c) fun i => by
    have h0 : (i 0 : ℕ) < 50000 := (i 0).isLt
    have h1 : (i 1 : ℕ) < 1 := (i 1).isLt
    have hN : cfg0.N = 25 := N_0
    obtain ⟨t, ht⟩ : ∃ t : Fin cfg0.N, t.val = (i 0 : ℕ) / 2000 := ⟨⟨(i 0 : ℕ) / 2000, by omega⟩, rfl⟩
    refine ⟨t, flush0_15 t, ?_⟩
    show i ∈ ((View.whole main_v8_0).slice (win0_15.rect t)).set
    rw [View.set_slice_whole, Rect.mem_set_unit]
    intro a
    match a with
    | ⟨0, _⟩ =>
      show win0_15.index t 0 * 2000 ≤ (i 0 : ℕ) ∧ (i 0 : ℕ) < win0_15.index t 0 * 2000 + 2000
      rw [(index15 t).1, ht]; omega
    | ⟨1, _⟩ =>
      show win0_15.index t 1 * 1 ≤ (i 1 : ℕ) ∧ (i 1 : ℕ) < win0_15.index t 1 * 1 + 1
      rw [(index15 t).2]; omega

/-- The last point. -/
def lastPoint : Fin cfg0.N := ⟨24, by rw [show cfg0.N = 25 from N_0]; decide⟩

/-- The one write-back of the segment block writes the row of sums. -/
theorem segs_flushed (c : Dev nD) (t : Fin cfg0.N) (hf : (cfg0.win 16).flush t = true) :
    (dats m 0 c).flushed 16 t = ((cfg0.win 16).blk t).view.read (Elt Ideal) (segArray m c) := by
  have hN : cfg0.N = 25 := N_0
  have h24 : t.val = 24 := by have := (flush0_16 t).mp hf; have := t.isLt; omega
  obtain rfl : t = lastPoint := Fin.ext h24
  show (cfg0.win 16).cut (grid0.coords lastPoint) ((dats m 0 c).after 16 lastPoint) = _
  rw [after0_16]
  refine Eq.trans ?_ (Memref.read_access_unit_zero (Elt Ideal) main_v8_1 (funext fun a => by fin_cases a <;> rfl) _ (segArray m c)).symm
  funext j
  obtain ⟨z, g, rfl⟩ : ∃ (z : Fin 1) (g : Fin 512), j = ix2 z g := ⟨j 0, j 1, eq_ix2 j⟩
  obtain rfl : z = u0 := Subsingleton.elim _ _
  exact segs_last m c lastPoint.isLt g

/-- The row of sums when the grid has run. -/
theorem segs_final (c : Dev nD) : (dats m 0 c).arrAt 16 cfg0.N = segArray m c :=
  (dats m 0 c).arrAt_eq_of_cover 16 (segArray m c) (segs_flushed m c) fun i => by
    have h0 : (i 0 : ℕ) < 1 := (i 0).isLt
    have h1 : (i 1 : ℕ) < 512 := (i 1).isLt
    refine ⟨lastPoint, (flush0_16 _).mpr rfl, ?_⟩
    show i ∈ ((View.whole main_v8_1).slice (win0_16.rect lastPoint)).set
    rw [View.set_slice_whole, Rect.mem_set_unit]
    intro a
    match a with
    | ⟨0, _⟩ =>
      show 0 * 1 ≤ (i 0 : ℕ) ∧ (i 0 : ℕ) < 0 * 1 + 1
      omega
    | ⟨1, _⟩ =>
      show 0 * 512 ≤ (i 1 : ℕ) ∧ (i 1 : ℕ) < 0 * 512 + 512
      omega

end Cert.KernelIdeal.Arrays

end

end
-- ==== Proof.Run.lean ====
/- What the kernel's three results hold when it has run: the energies, the segment sums, and the sums scaled by one. -/
module

public import proofs.«01_k».proof.Proof.Array
public import Idealize.ShloMosaic.Lib.Claim

@[expose] public section

set_option maxRecDepth 16384

noncomputable section

namespace Cert.KernelIdeal.Results

open Cert.KernelIdeal Cert.KernelIdeal.Gen Cert.KernelIdeal.Arrays Cert.Gated Idealize.ShloMosaic.ValueIdx Idealize.ShloMosaic.TcCoe Idealize.SL.Sem
open Idealize.ShloMosaic hiding ix1 ix2 eq_ix1 eq_ix2 addf_apply mulf_apply
open Idealize.ShloMosaic.Pipeline (Dat)

variable (m : (ℓ : Loc nD τ sig) → Buf (Elt Ideal) ℓ) (ρ : Dev nD → PrngReg)

/-- Every window stages an array of its own. -/
theorem arrays_apart : Function.Injective (Pipeline.arrRef spec0) := by decide

/-- What the lines after the grid find in the buffers. -/
abbrev atExit (c : Dev nD) : Valuation τ sig (Elt Ideal) :=
  Pipeline.withArrays spec0 c (V0 m c) fun w => (dats m 0 c).arrAt w cfg0.N

/-- They find the energies in the column the kernel wrote. -/
theorem exit_atoms (c : Dev nD) : atExit m c (Proc.devRef .tc main_v8_0) = atomArray m c :=
  (Pipeline.withArrays_arr spec0 arrays_apart c _ _ 15).trans (atoms_final m c)

/-- They find the sums in the row the kernel wrote. -/
theorem exit_segs (c : Dev nD) : atExit m c (Proc.devRef .tc main_v8_1) = segArray m c :=
  (Pipeline.withArrays_arr spec0 arrays_apart c _ _ 16).trans (segs_final m c)

/-- The first result: every atom's energy. -/
def result0 (c : Dev nD) : Buf (Elt Ideal) ((c : Thread nD τ).loc main_v9) := fun i => atomEnergy m c (i 0)

/-- The second result: every segment's sum. -/
def result1 (c : Dev nD) : Buf (Elt Ideal) ((c : Thread nD τ).loc main_v10) := fun i => segSum (atomId m c) (atomEnergy m c) (i 0)

/-- The third result: every segment's sum scaled by one. -/
def result2 (c : Dev nD) : Buf (Elt Ideal) ((c : Thread nD τ).loc main_v12) := fun i => 1 * segSum (atomId m c) (atomEnergy m c) (i 0)

/-- The column of energies read as a vector. -/
theorem flat_atoms (c : Dev nD) : shapeCast S50000 (atomArray m c) shapeCasts_S50000x1_S50000 = result0 m c :=
  funext fun i => by
    obtain ⟨k, rfl⟩ : ∃ k : Fin 50000, i = ix1 k := ⟨i 0, eq_ix1 i⟩
    refine shapeCast_apply (atomArray m c) _ _ (ix2 k u0) ?_
    show (S50000x1.rowMajor (ix2 k u0)).val = (S50000.rowMajor (ix1 k)).val
    simp [Shape.rowMajor_val_one, Shape.rowMajor_val_two, u0]

/-- The row of sums read as a vector. -/
theorem flat_segs (c : Dev nD) : shapeCast S512 (segArray m c) shapeCasts_S1x512_S512 = result1 m c :=
  funext fun i => by
    obtain ⟨k, rfl⟩ : ∃ k : Fin 512, i = ix1 k := ⟨i 0, eq_ix1 i⟩
    refine shapeCast_apply (segArray m c) _ _ (ix2 u0 k) ?_
    show (S1x512.rowMajor (ix2 u0 k)).val = (S512.rowMajor (ix1 k)).val
    simp [Shape.rowMajor_val_one, Shape.rowMajor_val_two, u0]

/-- The lines after the grid leave the first result. -/
theorem tail_v9 (c : Dev nD) : Pipeline.afterTail₀ cfgs (dats m) 0 (V0 m) [hostOps1] c main_v9 = result0 m c := by
  show StableHlo.after hostOps1 (atExit m c) (Proc.devRef .tc main_v9) = _
  after_results
  rw [exit_atoms]
  exact flat_atoms m c

/-- The lines after the grid leave the second result. -/
theorem tail_v10 (c : Dev nD) : Pipeline.afterTail₀ cfgs (dats m) 0 (V0 m) [hostOps1] c main_v10 = result1 m c := by
  show StableHlo.after hostOps1 (atExit m c) (Proc.devRef .tc main_v10) = _
  after_results
  rw [exit_segs]
  exact flat_segs m c

/-- The lines after the grid leave the third result. -/
theorem tail_v12 (c : Dev nD) : Pipeline.afterTail₀ cfgs (dats m) 0 (V0 m) [hostOps1] c main_v12 = result2 m c := by
  show StableHlo.after hostOps1 (atExit m c) (Proc.devRef .tc main_v12) = _
  after_results
  rw [exit_segs]
  funext i
  show Ideal.ofBits .f32 0x3F800000#32 * shapeCast S512 (segArray m c) shapeCasts_S1x512_S512 i = _
  rw [unit_f32, flat_segs]
  rfl

/-- The run: the three results, and nothing said of the arguments. -/
theorem run_results : θ_run defs (onTc (τ := τ) (main (F := Ideal))) ⟨m, fun _ => 0, ρ⟩ (fun r => ∀ c : Dev nD,
      r.2.mem ((c.tc : Thread nD τ).loc main_v9) = result0 m c
      ∧ r.2.mem ((c.tc : Thread nD τ).loc main_v10) = result1 m c
      ∧ r.2.mem ((c.tc : Thread nD τ).loc main_v12) = result2 m c) :=
  (θ_run defs _ _).mono (fun _ h c =>
    ⟨((h c).2 main_v9 (Pipeline.mem_restRefs_of main_v9 (by decide) (by decide))).trans (tail_v9 m c),
      ((h c).2 main_v10 (Pipeline.mem_restRefs_of main_v10 (by decide) (by decide))).trans (tail_v10 m c),
      ((h c).2 main_v12 (Pipeline.mem_restRefs_of main_v12 (by decide) (by decide))).trans (tail_v12 m c)⟩)
    (run_main m ρ)

end Cert.KernelIdeal.Results

end

end
-- ==== Proof.Equation.lean ====
/- The precondition read as real numbers, and the equation: on real features and hidden layers the kernel's energies are
   the reference's. -/
module

public import proofs.«01_k».proof.Defs
public import proofs.«01_k».proof.Proof.Run

@[expose] public section

noncomputable section

namespace Cert.Finite

open Cert.Gated Idealize.ShloMosaic.ValueIdx Idealize.ShloMosaic.TcCoe
open Idealize.ShloMosaic hiding ix1 ix2 eq_ix1 eq_ix2 addf_apply mulf_apply

/-- The spreads of the precondition's constant. -/
theorem facts : Cert.Pre_finite.Facts where
  bcast_S_S50000x256 := by decide
  bcast_S_S256x256 := by decide
  bcast_S_S256 := by decide

/-- Where an array's absolute values are all below infinity it holds real numbers. -/
theorem real_of_ones {s : Shape} (x : FVec Ideal s .f32) (h : Cert.Pre_finite.S_.BroadcastsInDim s ![])
    (hx : cmpf .olt (Host.absf x) (broadcastInDim s ![] h (constant Cert.Pre_finite.S_ .f32 0x7F800000#32)) = fun _ => 1#1)
    (i : s.Idx) : Fin1 (x i) := by
  have hi := congrFun hx i
  have hc : Ideal.cmp .olt (max (x i) (-x i)) (Ideal.ofBits .f32 0x7F800000#32) = 1#1 := hi
  rw [inf_f32] at hc
  apply Fin1.of_abs
  by_contra hn
  simp [Ideal.cmp, hn] at hc

variable (m : (ℓ : Loc Cert.KernelIdeal.nD Cert.KernelIdeal.τ Cert.KernelIdeal.sig) → Buf (Elt Ideal) ℓ)

open Cert.KernelIdeal Cert.KernelIdeal.Arrays

/-- Under the precondition the kernel's energies are those spelled with the exponential. -/
theorem atomEnergy_eq (hpre : Cert.Pre_KernelIdeal_finite (hPre_finite := facts) m) (c : Dev nD) :
    atomEnergy m c =
      energies actE sigE (m ((c : Thread nD τ).loc main_arg0)) (m ((c : Thread nD τ).loc main_arg1)) (m ((c : Thread nD τ).loc main_arg4))
        (m ((c : Thread nD τ).loc main_arg5)) (m ((c : Thread nD τ).loc main_arg6)) (m ((c : Thread nD τ).loc main_arg7))
        (m ((c : Thread nD τ).loc main_arg8)) (m ((c : Thread nD τ).loc main_arg9)) (m ((c : Thread nD τ).loc main_arg10))
        (m ((c : Thread nD τ).loc main_arg11)) (m ((c : Thread nD τ).loc main_arg12)) (m ((c : Thread nD τ).loc main_arg13))
        (m ((c : Thread nD τ).loc main_arg14)) (m ((c : Thread nD τ).loc main_arg15)) := by
  obtain ⟨h0, h4, h5, h6, h7, h8, h9, h10, h11⟩ := hpre c
  have f0 := real_of_ones _ facts.bcast_S_S50000x256 h0
  have f4 := real_of_ones _ facts.bcast_S_S256x256 h4
  have f5 := real_of_ones _ facts.bcast_S_S256 h5
  have f6 := real_of_ones _ facts.bcast_S_S256x256 h6
  have f7 := real_of_ones _ facts.bcast_S_S256 h7
  have f8 := real_of_ones _ facts.bcast_S_S256x256 h8
  have f9 := real_of_ones _ facts.bcast_S_S256 h9
  have f10 := real_of_ones _ facts.bcast_S_S256x256 h10
  have f11 := real_of_ones _ facts.bcast_S_S256 h11
  funext i
  unfold atomEnergy energies energy
  rw [sigT_eq_sigE]
  have both (e a b a' b' : EReal) (ha : a = a') (hb : b = b') : e + a * sigE b = e + a' * sigE b' := by rw [ha, hb]
  exact both _ _ _ _ _
    (mlp_eq (fun k => f0 _) (fun k j => f4 _) (fun j => f5 _) (fun k j => f8 _) (fun j => f9 _) _ _)
    (mlp_eq (fun k => f0 _) (fun k j => f6 _) (fun j => f7 _) (fun k j => f10 _) (fun j => f11 _) _ _)

end Cert.Finite

end

end
-- ==== Proof.lean ====
/- The claims: the printed kernel, its ideal reading and the reference run and leave their arguments alone; and the
   kernel's three results equal the reference's at the ideal values. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Run
public import proofs.«01_k».proof.Proof.Equation
public import Idealize.ShloMosaic.Lib.Claim
public import Idealize.ShloMosaic.Adequacy
public import Idealize.ShloMosaic.Init

@[expose] public section

noncomputable section

namespace Cert.Proof

open Cert.Gated Cert.KernelIdeal.Results Cert.KernelIdeal.Arrays Idealize.SL.Sem Idealize.ShloMosaic.ValueIdx
open Idealize.ShloMosaic hiding ix1 ix2 eq_ix1 eq_ix2 addf_apply mulf_apply

/-- The reference runs, leaves its arguments alone and has no counter to leave up. -/
theorem reference_quiescent : Cert.quiescent_ReferenceIdeal (hReferenceIdeal := Cert.ReferenceIdeal.Gen.facts) := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

/-- The kernel's three results are the reference's, under the precondition. -/
theorem equal : Cert.algebraic_KernelIdeal_ReferenceIdeal_pre_finite (hKernelIdeal := Cert.KernelIdeal.Gen.facts)
    (hReferenceIdeal := Cert.ReferenceIdeal.Gen.facts) (hPre_finite := Cert.Finite.facts) := by
  intro m ρ m' ρ' hpre hargs
  refine ⟨result0 m, result1 m, result2 m, ?_, ?_⟩
  · exact (θ_run Cert.KernelIdeal.defs _ _).mono (fun r h c => ⟨(h.1 c).1, (h.1 c).2.1, (h.1 c).2.2, h.2 c⟩)
      (θ_run_and (run_results m ρ) (Cert.KernelIdeal.Gen.unchanged m ρ))
  · refine (θ_run Cert.ReferenceIdeal.defs _ _).mono (fun r h c => ?_) (Cert.ReferenceIdeal.Value.run (F := Ideal) m' ρ')
    obtain ⟨a0, a1, a2, _, a4, a5, a6, a7, a8, a9, a10, a11, a12, a13, a14, a15⟩ := hargs c
    have he : energies actE sigE
          (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg4))
          (m' ((c.tc : Thread Cert.ReferenceIdeal.nD Cert.ReferenceIdeal.τ).loc Cert.ReferenceIdeal.main_arg5))
          (m' ((c.tc : Thread Cert.ReferenceIdeal.nD Cert.ReferenceIdeal.τ).loc Cert.ReferenceIdeal.main_arg6))
          (m' ((c.tc : Thread Cert.ReferenceIdeal.nD Cert.ReferenceIdeal.τ).loc Cert.ReferenceIdeal.main_arg7))
          (m' ((c.tc : Thread Cert.ReferenceIdeal.nD Cert.ReferenceIdeal.τ).loc Cert.ReferenceIdeal.main_arg8))
          (m' ((c.tc : Thread Cert.ReferenceIdeal.nD Cert.ReferenceIdeal.τ).loc Cert.ReferenceIdeal.main_arg9))
          (m' ((c.tc : Thread Cert.ReferenceIdeal.nD Cert.ReferenceIdeal.τ).loc Cert.ReferenceIdeal.main_arg10))
          (m' ((c.tc : Thread Cert.ReferenceIdeal.nD Cert.ReferenceIdeal.τ).loc Cert.ReferenceIdeal.main_arg11))
          (m' ((c.tc : Thread Cert.ReferenceIdeal.nD Cert.ReferenceIdeal.τ).loc Cert.ReferenceIdeal.main_arg12))
          (m' ((c.tc : Thread Cert.ReferenceIdeal.nD Cert.ReferenceIdeal.τ).loc Cert.ReferenceIdeal.main_arg13))
          (m' ((c.tc : Thread Cert.ReferenceIdeal.nD Cert.ReferenceIdeal.τ).loc Cert.ReferenceIdeal.main_arg14))
          (m' ((c.tc : Thread Cert.ReferenceIdeal.nD Cert.ReferenceIdeal.τ).loc Cert.ReferenceIdeal.main_arg15)) = atomEnergy m c := by
      rewrite [a0, a1, a4, a5, a6, a7, a8, a9, a10, a11, a12, a13, a14, a15]
      exact (Cert.Finite.atomEnergy_eq m hpre c).symm
    have hid : (fun i : Fin 50000 => (m' ((c.tc : Thread Cert.ReferenceIdeal.nD Cert.ReferenceIdeal.τ).loc Cert.ReferenceIdeal.main_arg2)) (ix1 i)) = atomId m c := by
      rewrite [a2]
      rfl
    have hsum (g : Fin 512) := (Cert.ReferenceIdeal.Read.segment_energy _ _ _ _ _ _ _ _ _ _ _ _ _ _ _ g).trans
      (congrArg₂ (fun ids e => segSum ids e g) hid he)
    have hscaled (g : Fin 512) := (Cert.ReferenceIdeal.Read.scaled_energy _ _ _ _ _ _ _ _ _ _ _ _ _ _ _ g).trans
      (congrArg₂ (fun ids e => 1 * segSum ids e g) hid he)
    refine ⟨(h c).1.trans ((Cert.ReferenceIdeal.Read.val_main_v38_eq m' c).trans (funext fun i => ?_)),
      (h c).2.1.trans ((Cert.ReferenceIdeal.Read.val_main_v41_eq m' c).trans (funext fun i => ?_)),
      (h c).2.2.1.trans ((Cert.ReferenceIdeal.Read.val_main_v43_eq m' c).trans (funext fun i => ?_)), (h c).2.2.2⟩
    · obtain ⟨k, rfl⟩ : ∃ k : Fin 50000, i = ix1 k := ⟨i 0, eq_ix1 i⟩
      exact (Cert.ReferenceIdeal.Read.atom_energy ..).trans (congrFun he k)
    · obtain ⟨k, rfl⟩ : ∃ k : Fin 512, i = ix1 k := ⟨i 0, eq_ix1 i⟩
      exact hsum k
    · obtain ⟨k, rfl⟩ : ∃ k : Fin 512, i = ix1 k := ⟨i 0, eq_ix1 i⟩
      exact hscaled k

/-- Everything claimed. -/
theorem claim : Cert.Claim :=
  ⟨Cert.Kernel.Gen.facts, Cert.KernelIdeal.Gen.facts, Cert.ReferenceIdeal.Gen.facts, Cert.Finite.facts,
    fun m ρ _ => Cert.Kernel.Gen.frame m ρ, fun m ρ _ => Cert.KernelIdeal.Gen.frame m ρ, fun m ρ _ => Cert.KernelIdeal.Gen.frame m ρ,
    reference_quiescent, fun m ρ _ => reference_quiescent m ρ trivial, trivial, equal⟩

end Cert.Proof

end
